-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x16384 : Shape := ⟨3, ![1, 1024, 16384]⟩
abbrev S1x1024x5376 : Shape := ⟨3, ![1, 1024, 5376]⟩
abbrev S16384x5376 : Shape := ⟨2, ![16384, 5376]⟩
abbrev S5376 : Shape := ⟨1, ![5376]⟩
abbrev S16384x64 : Shape := ⟨2, ![16384, 64]⟩
abbrev S64x5376 : Shape := ⟨2, ![64, 5376]⟩
abbrev S1024x16384 : Shape := ⟨2, ![1024, 16384]⟩
abbrev S1024x5376 : Shape := ⟨2, ![1024, 5376]⟩
abbrev S1024x1 : Shape := ⟨2, ![1024, 1]⟩
abbrev S1024x64 : Shape := ⟨2, ![1024, 64]⟩
abbrev S128x16384 : Shape := ⟨2, ![128, 16384]⟩
abbrev S128x1 : Shape := ⟨2, ![128, 1]⟩
abbrev S128x64 : Shape := ⟨2, ![128, 64]⟩
abbrev S128 : Shape := ⟨1, ![128]⟩
abbrev S1x5376 : Shape := ⟨2, ![1, 5376]⟩
abbrev S16384x256 : Shape := ⟨2, ![16384, 256]⟩
abbrev S1x256 : Shape := ⟨2, ![1, 256]⟩
abbrev S64x256 : Shape := ⟨2, ![64, 256]⟩
abbrev S1024x256 : Shape := ⟨2, ![1024, 256]⟩
abbrev S21x1024x256 : Shape := ⟨3, ![21, 1024, 256]⟩
abbrev S1x1024x256 : Shape := ⟨3, ![1, 1024, 256]⟩
abbrev S1024 : Shape := ⟨1, ![1024]⟩
abbrev S1x32x256 : Shape := ⟨3, ![1, 32, 256]⟩
abbrev S32x256 : Shape := ⟨2, ![32, 256]⟩
abbrev S32x1 : Shape := ⟨2, ![32, 1]⟩
abbrev S1x1024 : Shape := ⟨2, ![1, 1024]⟩

abbrev nBuf : Space → Nat
  | .hbm => 20
  | .vmem => 26
  | .smem => 0
  | _ => 0

abbrev bufTy : (tb : Table) → Fin (tcTables nBuf tb) → BufTy
  | .hbm, ⟨0, _⟩ => ⟨S1x1024x16384, .bf16⟩
  | .hbm, ⟨1, _⟩ => ⟨S1x1024x5376, .bf16⟩
  | .hbm, ⟨2, _⟩ => ⟨S16384x5376, .fp8e4m3⟩
  | .hbm, ⟨3, _⟩ => ⟨S5376, .f32⟩
  | .hbm, ⟨4, _⟩ => ⟨S16384x64, .bf16⟩
  | .hbm, ⟨5, _⟩ => ⟨S64x5376, .bf16⟩
  | .hbm, ⟨6, _⟩ => ⟨S1024x16384, .bf16⟩
  | .hbm, ⟨7, _⟩ => ⟨S1024x5376, .bf16⟩
  | .hbm, ⟨8, _⟩ => ⟨S1024x16384, .fp8e4m3⟩
  | .hbm, ⟨9, _⟩ => ⟨S1024x1, .f32⟩
  | .hbm, ⟨10, _⟩ => ⟨S1024x64, .bf16⟩
  | .hbm, ⟨11, _⟩ => ⟨S1x5376, .f32⟩
  | .hbm, ⟨12, _⟩ => ⟨S1024x5376, .bf16⟩
  | .hbm, ⟨13, _⟩ => ⟨S1024x5376, .fp8e4m3⟩
  | .hbm, ⟨14, _⟩ => ⟨S1024x1, .f32⟩
  | .hbm, ⟨15, _⟩ => ⟨S1x1024x5376, .bf16⟩
  | .hbm, ⟨16, _⟩ => ⟨S1x1024x16384, .fp8e4m3⟩
  | .hbm, ⟨17, _⟩ => ⟨S1x1024, .f32⟩
  | .hbm, ⟨18, _⟩ => ⟨S1x1024x5376, .fp8e4m3⟩
  | .hbm, ⟨19, _⟩ => ⟨S1x1024, .f32⟩
  | .local _ .vmem, ⟨0, _⟩ => ⟨S128x16384, .bf16⟩
  | .local _ .vmem, ⟨1, _⟩ => ⟨S128x16384, .bf16⟩
  | .local _ .vmem, ⟨2, _⟩ => ⟨S16384x64, .bf16⟩
  | .local _ .vmem, ⟨3, _⟩ => ⟨S128x16384, .fp8e4m3⟩
  | .local _ .vmem, ⟨4, _⟩ => ⟨S128x16384, .fp8e4m3⟩
  | .local _ .vmem, ⟨5, _⟩ => ⟨S128x1, .f32⟩
  | .local _ .vmem, ⟨6, _⟩ => ⟨S128x1, .f32⟩
  | .local _ .vmem, ⟨7, _⟩ => ⟨S128x64, .bf16⟩
  | .local _ .vmem, ⟨8, _⟩ => ⟨S128x64, .bf16⟩
  | .local _ .vmem, ⟨9, _⟩ => ⟨S1024x16384, .fp8e4m3⟩
  | .local _ .vmem, ⟨10, _⟩ => ⟨S1024x1, .f32⟩
  | .local _ .vmem, ⟨11, _⟩ => ⟨S1024x64, .bf16⟩
  | .local _ .vmem, ⟨12, _⟩ => ⟨S16384x256, .fp8e4m3⟩
  | .local _ .vmem, ⟨13, _⟩ => ⟨S16384x256, .fp8e4m3⟩
  | .local _ .vmem, ⟨14, _⟩ => ⟨S1x256, .f32⟩
  | .local _ .vmem, ⟨15, _⟩ => ⟨S1x256, .f32⟩
  | .local _ .vmem, ⟨16, _⟩ => ⟨S64x256, .bf16⟩
  | .local _ .vmem, ⟨17, _⟩ => ⟨S64x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x5376, .fp8e4m3⟩
  | .local _ .vmem, ⟨23, _⟩ => ⟨S1024x1, .f32⟩
  | .local _ .vmem, ⟨24, _⟩ => ⟨S21x1024x256, .bf16⟩
  | .local _ .vmem, ⟨25, _⟩ => ⟨S1024x1, .f32⟩
  | _, _ => ⟨S1x1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg9_0 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem9_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![21], ![false]⟩

def k1_off1 (i : grid1.Coords) : Fin 3 → Nat :=
  let arg0 : BitVec 32 := BitVec.ofNat 32 (i 0).val
  let v25 : Index := Scalar.indexCast arg0
  let c0_17 : Index := 0#32
  let c0_18 : Index := 0#32
  ![v25.toNat, 0, 0]
def k1_cond3 (i : grid1.Coords) : BitVec 1 :=
  let arg0 : BitVec 32 := BitVec.ofNat 32 (i 0).val
  let c20_i32 : BitVec 32 := 20#32
  let v39 : BitVec 1 := Scalar.cmpi .eq arg0 c20_i32
  let v40 : BitVec 32 := Scalar.extui v39
  let c0_i32_23 : BitVec 32 := 0#32
  let v41 : BitVec 1 := Scalar.cmpi .ne v40 c0_i32_23
  v41

@[reducible] def k1_t1_loop : Scf.Loop 32 :=
  let c0_i32_44 : BitVec 32 := 0#32
  let c32_i32_45 : BitVec 32 := 32#32
  let v125 : BitVec 32 := Scalar.addi c0_i32_44 c32_i32_45
  let c1_i32_46 : BitVec 32 := 1#32
  ⟨c0_i32_44, v125, c1_i32_46⟩
def k1_mult1 (k1_t1 : Fin k1_t1_loop.trips) : BitVec 32 :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  v128
def k1_off2 (k1_t1 : Fin k1_t1_loop.trips) : Fin 3 → Nat :=
  let c0_51 : Index := 0#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v130 : Index := Scalar.indexCast v129
  let c0_52 : Index := 0#32
  ![0, v130.toNat, 0]
def k1_off3 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v134 : Index := Scalar.indexCast v129
  let c0_53 : Index := 0#32
  ![v134.toNat, 0]
def k1_off4 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v143 : Index := Scalar.indexCast v129
  let c0_56 : Index := 0#32
  ![v143.toNat, 0]
def k1_off5 (k1_t1 : Fin k1_t1_loop.trips) : Fin 3 → Nat :=
  let c1 : Index := 1#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v145 : Index := Scalar.indexCast v129
  let c0_57 : Index := 0#32
  ![1, v145.toNat, 0]
def k1_off6 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v158 : Index := Scalar.indexCast v129
  let c256 : Index := 256#32
  ![v158.toNat, 256]
def k1_off7 (k1_t1 : Fin k1_t1_loop.trips) : Fin 3 → Nat :=
  let c2 : Index := 2#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v160 : Index := Scalar.indexCast v129
  let c0_61 : Index := 0#32
  ![2, v160.toNat, 0]
def k1_off8 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v173 : Index := Scalar.indexCast v129
  let c512 : Index := 512#32
  ![v173.toNat, 512]
def k1_off9 (k1_t1 : Fin k1_t1_loop.trips) : Fin 3 → Nat :=
  let c3 : Index := 3#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v175 : Index := Scalar.indexCast v129
  let c0_65 : Index := 0#32
  ![3, v175.toNat, 0]
def k1_off10 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v188 : Index := Scalar.indexCast v129
  let c768 : Index := 768#32
  ![v188.toNat, 768]
def k1_off11 (k1_t1 : Fin k1_t1_loop.trips) : Fin 3 → Nat :=
  let c4 : Index := 4#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v190 : Index := Scalar.indexCast v129
  let c0_69 : Index := 0#32
  ![4, v190.toNat, 0]
def k1_off12 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v203 : Index := Scalar.indexCast v129
  let c1024 : Index := 1024#32
  ![v203.toNat, 1024]
def k1_off13 (k1_t1 : Fin k1_t1_loop.trips) : Fin 3 → Nat :=
  let c5 : Index := 5#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v205 : Index := Scalar.indexCast v129
  let c0_73 : Index := 0#32
  ![5, v205.toNat, 0]
def k1_off14 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v218 : Index := Scalar.indexCast v129
  let c1280 : Index := 1280#32
  ![v218.toNat, 1280]
def k1_off15 (k1_t1 : Fin k1_t1_loop.trips) : Fin 3 → Nat :=
  let c6 : Index := 6#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v220 : Index := Scalar.indexCast v129
  let c0_77 : Index := 0#32
  ![6, v220.toNat, 0]
def k1_off16 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v233 : Index := Scalar.indexCast v129
  let c1536 : Index := 1536#32
  ![v233.toNat, 1536]
def k1_off17 (k1_t1 : Fin k1_t1_loop.trips) : Fin 3 → Nat :=
  let c7 : Index := 7#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v235 : Index := Scalar.indexCast v129
  let c0_81 : Index := 0#32
  ![7, v235.toNat, 0]
def k1_off18 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v248 : Index := Scalar.indexCast v129
  let c1792 : Index := 1792#32
  ![v248.toNat, 1792]
def k1_off19 (k1_t1 : Fin k1_t1_loop.trips) : Fin 3 → Nat :=
  let c8 : Index := 8#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v250 : Index := Scalar.indexCast v129
  let c0_85 : Index := 0#32
  ![8, v250.toNat, 0]
def k1_off20 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v263 : Index := Scalar.indexCast v129
  let c2048 : Index := 2048#32
  ![v263.toNat, 2048]
def k1_off21 (k1_t1 : Fin k1_t1_loop.trips) : Fin 3 → Nat :=
  let c9 : Index := 9#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v265 : Index := Scalar.indexCast v129
  let c0_89 : Index := 0#32
  ![9, v265.toNat, 0]
def k1_off22 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v278 : Index := Scalar.indexCast v129
  let c2304 : Index := 2304#32
  ![v278.toNat, 2304]
def k1_off23 (k1_t1 : Fin k1_t1_loop.trips) : Fin 3 → Nat :=
  let c10 : Index := 10#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v280 : Index := Scalar.indexCast v129
  let c0_93 : Index := 0#32
  ![10, v280.toNat, 0]
def k1_off24 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v293 : Index := Scalar.indexCast v129
  let c2560 : Index := 2560#32
  ![v293.toNat, 2560]
def k1_off25 (k1_t1 : Fin k1_t1_loop.trips) : Fin 3 → Nat :=
  let c11 : Index := 11#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v295 : Index := Scalar.indexCast v129
  let c0_97 : Index := 0#32
  ![11, v295.toNat, 0]
def k1_off26 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v308 : Index := Scalar.indexCast v129
  let c2816 : Index := 2816#32
  ![v308.toNat, 2816]
def k1_off27 (k1_t1 : Fin k1_t1_loop.trips) : Fin 3 → Nat :=
  let c12 : Index := 12#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v310 : Index := Scalar.indexCast v129
  let c0_101 : Index := 0#32
  ![12, v310.toNat, 0]
def k1_off28 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v323 : Index := Scalar.indexCast v129
  let c3072 : Index := 3072#32
  ![v323.toNat, 3072]
def k1_off29 (k1_t1 : Fin k1_t1_loop.trips) : Fin 3 → Nat :=
  let c13 : Index := 13#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v325 : Index := Scalar.indexCast v129
  let c0_105 : Index := 0#32
  ![13, v325.toNat, 0]
def k1_off30 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v338 : Index := Scalar.indexCast v129
  let c3328 : Index := 3328#32
  ![v338.toNat, 3328]
def k1_off31 (k1_t1 : Fin k1_t1_loop.trips) : Fin 3 → Nat :=
  let c14 : Index := 14#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v340 : Index := Scalar.indexCast v129
  let c0_109 : Index := 0#32
  ![14, v340.toNat, 0]
def k1_off32 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v353 : Index := Scalar.indexCast v129
  let c3584 : Index := 3584#32
  ![v353.toNat, 3584]
def k1_off33 (k1_t1 : Fin k1_t1_loop.trips) : Fin 3 → Nat :=
  let c15 : Index := 15#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v355 : Index := Scalar.indexCast v129
  let c0_113 : Index := 0#32
  ![15, v355.toNat, 0]
def k1_off34 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v368 : Index := Scalar.indexCast v129
  let c3840 : Index := 3840#32
  ![v368.toNat, 3840]
def k1_off35 (k1_t1 : Fin k1_t1_loop.trips) : Fin 3 → Nat :=
  let c16 : Index := 16#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v370 : Index := Scalar.indexCast v129
  let c0_117 : Index := 0#32
  ![16, v370.toNat, 0]
def k1_off36 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v383 : Index := Scalar.indexCast v129
  let c4096 : Index := 4096#32
  ![v383.toNat, 4096]
def k1_off37 (k1_t1 : Fin k1_t1_loop.trips) : Fin 3 → Nat :=
  let c17 : Index := 17#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v385 : Index := Scalar.indexCast v129
  let c0_121 : Index := 0#32
  ![17, v385.toNat, 0]
def k1_off38 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v398 : Index := Scalar.indexCast v129
  let c4352 : Index := 4352#32
  ![v398.toNat, 4352]
def k1_off39 (k1_t1 : Fin k1_t1_loop.trips) : Fin 3 → Nat :=
  let c18 : Index := 18#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v400 : Index := Scalar.indexCast v129
  let c0_125 : Index := 0#32
  ![18, v400.toNat, 0]
def k1_off40 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v413 : Index := Scalar.indexCast v129
  let c4608 : Index := 4608#32
  ![v413.toNat, 4608]
def k1_off41 (k1_t1 : Fin k1_t1_loop.trips) : Fin 3 → Nat :=
  let c19 : Index := 19#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v415 : Index := Scalar.indexCast v129
  let c0_129 : Index := 0#32
  ![19, v415.toNat, 0]
def k1_off42 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v428 : Index := Scalar.indexCast v129
  let c4864 : Index := 4864#32
  ![v428.toNat, 4864]
def k1_off43 (k1_t1 : Fin k1_t1_loop.trips) : Fin 3 → Nat :=
  let c20 : Index := 20#32
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v430 : Index := Scalar.indexCast v129
  let c0_133 : Index := 0#32
  ![20, v430.toNat, 0]
def k1_off44 (k1_t1 : Fin k1_t1_loop.trips) : Fin 2 → Nat :=
  let c0_i32_49 : BitVec 32 := 0#32
  let c0_i32_44 : BitVec 32 := 0#32
  let c1_i32_46 : BitVec 32 := 1#32
  let arg13 : BitVec 32 := Scf.iv c0_i32_44 c1_i32_46 k1_t1
  let c1_i32_48 : BitVec 32 := 1#32
  let v126 : BitVec 32 := Scalar.muli arg13 c1_i32_48
  let v127 : BitVec 32 := Scalar.addi c0_i32_49 v126
  let c32_i32_50 : BitVec 32 := 32#32
  let v128 : BitVec 32 := Scalar.muli v127 c32_i32_50
  let v129 : BitVec 32 := v128
  let v443 : Index := Scalar.indexCast v129
  let c5120 : Index := 5120#32
  ![v443.toNat, 5120]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x16384 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16384x256 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1024x5376 .fp8e4m3 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceIdeal.lean ====
abbrev S1x1024x16384 : Shape := ⟨3, ![1, 1024, 16384]⟩
abbrev S1x1024x5376 : Shape := ⟨3, ![1, 1024, 5376]⟩
abbrev S16384x5376 : Shape := ⟨2, ![16384, 5376]⟩
abbrev S5376 : Shape := ⟨1, ![5376]⟩
abbrev S16384x64 : Shape := ⟨2, ![16384, 64]⟩
abbrev S64x5376 : Shape := ⟨2, ![64, 5376]⟩
abbrev S1024x16384 : Shape := ⟨2, ![1024, 16384]⟩
abbrev S1024x5376 : Shape := ⟨2, ![1024, 5376]⟩
abbrev S1x5376 : Shape := ⟨2, ![1, 5376]⟩
abbrev S1024x1 : Shape := ⟨2, ![1024, 1]⟩
abbrev S1024 : Shape := ⟨1, ![1024]⟩
abbrev S1x253 : Shape := ⟨2, ![1, 253]⟩
abbrev S1024x253 : Shape := ⟨2, ![1024, 253]⟩
abbrev S1024x64 : Shape := ⟨2, ![1024, 64]⟩
abbrev S1x1024 : Shape := ⟨2, ![1, 1024]⟩

abbrev nBuf : Space → Nat
  | .hbm => 19
  | .vmem => 11
  | .smem => 0
  | _ => 0

abbrev bufTy : (tb : Table) → Fin (tcTables nBuf tb) → BufTy
  | .hbm, ⟨0, _⟩ => ⟨S1x1024x16384, .bf16⟩
  | .hbm, ⟨1, _⟩ => ⟨S1x1024x5376, .bf16⟩
  | .hbm, ⟨2, _⟩ => ⟨S16384x5376, .fp8e4m3⟩
  | .hbm, ⟨3, _⟩ => ⟨S5376, .f32⟩
  | .hbm, ⟨4, _⟩ => ⟨S16384x64, .bf16⟩
  | .hbm, ⟨5, _⟩ => ⟨S64x5376, .bf16⟩
  | .hbm, ⟨6, _⟩ => ⟨S1024x16384, .bf16⟩
  | .hbm, ⟨7, _⟩ => ⟨S1024x5376, .bf16⟩
  | .hbm, ⟨8, _⟩ => ⟨S1x5376, .f32⟩
  | .hbm, ⟨9, _⟩ => ⟨S1024x5376, .bf16⟩
  | .hbm, ⟨10, _⟩ => ⟨S1024x16384, .fp8e4m3⟩
  | .hbm, ⟨11, _⟩ => ⟨S1024x1, .f32⟩
  | .hbm, ⟨12, _⟩ => ⟨S1024x5376, .fp8e4m3⟩
  | .hbm, ⟨13, _⟩ => ⟨S1024x1, .f32⟩
  | .hbm, ⟨14, _⟩ => ⟨S1x1024x5376, .bf16⟩
  | .hbm, ⟨15, _⟩ => ⟨S1x1024x16384, .fp8e4m3⟩
  | .hbm, ⟨16, _⟩ => ⟨S1x1024, .f32⟩
  | .hbm, ⟨17, _⟩ => ⟨S1x1024x5376, .fp8e4m3⟩
  | .hbm, ⟨18, _⟩ => ⟨S1x1024, .f32⟩
  | .local _ .vmem, ⟨0, _⟩ => ⟨S1024x16384, .bf16⟩
  | .local _ .vmem, ⟨1, _⟩ => ⟨S1024x5376, .bf16⟩
  | .local _ .vmem, ⟨2, _⟩ => ⟨S16384x5376, .fp8e4m3⟩
  | .local _ .vmem, ⟨3, _⟩ => ⟨S1x5376, .f32⟩
  | .local _ .vmem, ⟨4, _⟩ => ⟨S16384x64, .bf16⟩
  | .local _ .vmem, ⟨5, _⟩ => ⟨S64x5376, .bf16⟩
  | .local _ .vmem, ⟨6, _⟩ => ⟨S1024x5376, .bf16⟩
  | .local _ .vmem, ⟨7, _⟩ => ⟨S1024x16384, .fp8e4m3⟩
  | .local _ .vmem, ⟨8, _⟩ => ⟨S1024x1, .f32⟩
  | .local _ .vmem, ⟨9, _⟩ => ⟨S1024x5376, .fp8e4m3⟩
  | .local _ .vmem, ⟨10, _⟩ => ⟨S1024x1, .f32⟩
  | _, _ => ⟨S1x1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1024x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x5376 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x5376 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x5376 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x16384 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x5376 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.K.ProjBase.lean ====
module

public import proofs.«01_k».proof.Proof.Gen.Kernel.Loops
public import proofs.«01_k».proof.Proof.Gen.Kernel.Launch
public import Idealize.ShloMosaic.Lib.Pipeline.Kit
public import Idealize.ShloMosaic.Lib.VecWindow
public import Idealize.ShloMosaic.Lib.Pipeline.Value

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The second call's body, at one grid point, as plain functions of what its operands hold. -/

/-- The tile of `h` the body computes: codes `x0`, their scales `x1`, the adapter product `x2`, the weight columns `x3`
    and their scales `x4`, the adapter columns `x5`, the residual tile `x6`. -/
def hTile (x0 : Vec F S1024x16384 .fp8e4m3) (x1 : Vec F S1024x1 .f32) (x2 : Vec F S1024x64 .bf16) (x3 : Vec F S16384x256 .fp8e4m3) (x4 : Vec F S1x256 .f32) (x5 : Vec F S64x256 .bf16) (x6 : Vec F S1024x256 .bf16) : FVec F S1024x256 .bf16 := k1_pay36 x0 x3 x1 x4 x2 x5 x6

/-- The same tile as it goes into the body's table of all tiles. -/
def hSlot (x0 : Vec F S1024x16384 .fp8e4m3) (x1 : Vec F S1024x1 .f32) (x2 : Vec F S1024x64 .bf16) (x3 : Vec F S16384x256 .fp8e4m3) (x4 : Vec F S1x256 .f32) (x5 : Vec F S64x256 .bf16) (x6 : Vec F S1024x256 .bf16) : FVec F S1x1024x256 .bf16 := k1_pay37 x0 x3 x1 x4 x2 x5 x6

/-- The tile's row maxima of absolute values. -/
def hMax (x0 : Vec F S1024x16384 .fp8e4m3) (x1 : Vec F S1024x1 .f32) (x2 : Vec F S1024x64 .bf16) (x3 : Vec F S16384x256 .fp8e4m3) (x4 : Vec F S1x256 .f32) (x5 : Vec F S64x256 .bf16) (x6 : Vec F S1024x256 .bf16) : FVec F S1024x1 .f32 := k1_pay38 x0 x3 x1 x4 x2 x5 x6

/-- The scale of the final quantisation, from the row maxima over all columns. -/
def fScale (v : Vec F S1024x1 .f32) : FVec F S1024x1 .f32 := k1_pay34 (k1_pay29 v) (k1_pay30 v) (k1_pay31 v) (k1_pay32 v)

/-- The inverse of that scale, as the body stores it. -/
def fInv (v : Vec F S1024x1 .f32) : FVec F S1024x1 .f32 := k1_pay35 (k1_pay29 v) (k1_pay30 v) (k1_pay31 v) (k1_pay32 v)

/-- The table of tiles with the slot of grid point `i` overwritten. -/
def slotPut (i : grid1.Coords) (d : Vec F S21x1024x256 .bf16) (w : FVec F S1x1024x256 .bf16) : Vec F S21x1024x256 .bf16 :=
  VecWindow.put (s := S21x1024x256) d ![(i 0).val, 0, 0] S1x1024x256.size w

/-- The first branch's condition: the first grid point. -/
abbrev cond1_0 (i : grid1.Coords) : Prop := (Scalar.cmpi .ne (Scalar.extui (Scalar.cmpi .eq (BitVec.ofNat 32 (i 0).val) 0#32)) 0#32) = 1#1
/-- The second branch's condition: a grid point after the first. -/
abbrev cond1_1 (i : grid1.Coords) : Prop := (Scalar.cmpi .ne (Scalar.extui (Scalar.cmpi .sgt (BitVec.ofNat 32 (i 0).val) 0#32)) 0#32) = 1#1
/-- The third branch's condition: the last grid point. -/
abbrev cond1_2 (i : grid1.Coords) : Prop := k1_cond3 i = 1#1

theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ 1 ≤ t.val :=
  (by decide +kernel : ∀ t : Fin grid1.N, cond1_1 (grid1.coords t) ↔ 1 ≤ t.val)
theorem hcond1_2 : ∀ t : Fin cfg1.N, cond1_2 (grid1.coords t) ↔ t.val = 20 :=
  (by decide +kernel : ∀ t : Fin grid1.N, cond1_2 (grid1.coords t) ↔ t.val = 20)

end Cert.Kernel.Hand

end
-- ==== Proof.K.ProjRunA.lean ====
module

public import proofs.«01_k».proof.Proof.K.ProjBase

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of case A (branches taken, skipped, skipped): from the operands' contents, what it leaves everywhere. -/
theorem runA (c : Dev nD) (i : grid1.Coords) (arg1 : Memref sig .tc .vmem S1024x16384 .fp8e4m3) (harg1 : arg1.IsWhole) (arg2 : Memref sig .tc .vmem S1024x1 .f32) (harg2 : arg2.IsWhole) (arg3 : Memref sig .tc .vmem S1024x64 .bf16) (harg3 : arg3.IsWhole) (arg4 : Memref sig .tc .vmem S16384x256 .fp8e4m3) (harg4 : arg4.IsWhole) (arg5 : Memref sig .tc .vmem S1x256 .f32) (harg5 : arg5.IsWhole) (arg6 : Memref sig .tc .vmem S64x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x5376 .fp8e4m3) (harg9 : arg9.IsWhole) (arg10 : Memref sig .tc .vmem S1024x1 .f32) (harg10 : arg10.IsWhole) (arg11 : Memref sig .tc .vmem S21x1024x256 .bf16) (harg11 : arg11.IsWhole) (arg12 : Memref sig .tc .vmem S1024x1 .f32) (harg12 : arg12.IsWhole) (hc0 : cond1_0 i) (hc1 : ¬cond1_1 i) (hc2 : ¬cond1_2 i)
    (x0 : Vec F S1024x16384 .fp8e4m3) (x1 : Vec F S1024x1 .f32) (x2 : Vec F S1024x64 .bf16) (x3 : Vec F S16384x256 .fp8e4m3) (x4 : Vec F S1x256 .f32) (x5 : Vec F S64x256 .bf16) (x6 : Vec F S1024x256 .bf16) (d : Vec F S21x1024x256 .bf16) (y8 : Vec F S1024x5376 .fp8e4m3) (y9 : Vec F S1024x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ owns (c : Thread nD τ) arg10 fullShare y9 ∗ owns (c : Thread nD τ) arg11 fullShare d ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hTile x0 x1 x2 x3 x4 x5 x6) ∗ owns (c : Thread nD τ) arg9 fullShare y8 ∗ owns (c : Thread nD τ) arg10 fullShare y9 ∗ owns (c : Thread nD τ) arg11 fullShare (slotPut i d (hSlot x0 x1 x2 x3 x4 x5 x6)) ∗ owns (c : Thread nD τ) arg12 fullShare (k1_pay1 (hMax x0 x1 x2 x3 x4 x5 x6))) -∗ K ⟨⟩))
          ⊢ wp frame (wpE (defs₀ (F := F)) Variants.none c none) E (cc1_project i arg1 harg1 arg2 harg2 arg3 harg3 arg4 harg4 arg5 harg5 arg6 harg6 arg7 harg7 arg8 harg8 arg9 harg9 arg10 harg10 arg11 harg11 arg12 harg12) K := by
    simp only [cc1_project_eq_skeleton]; unfold cc1_project_skel
    simp only [k1_part10_eq_skeleton, k1_part9_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0
    have r0 := (View.readAt_full arg1.view (harg1.unread x0) inb_S1024x16384_S1024x16384_0_0).trans hf0
    have r1 := (View.readAt_full arg2.view (harg2.unread x1) inb_S1024x1_S1024x1_0_0).trans hf1
    have r2 := (View.readAt_full arg3.view (harg3.unread x2) inb_S1024x64_S1024x64_0_0).trans hf2
    have r3 := (View.readAt_full arg4.view (harg4.unread x3) inb_S16384x256_S16384x256_0_0).trans hf3
    have r4 := (View.readAt_full arg5.view (harg5.unread x4) inb_S1x256_S1x256_0_0).trans hf4
    have r5 := (View.readAt_full arg6.view (harg6.unread x5) inb_S64x256_S64x256_0_0).trans hf5
    have r6 := (View.readAt_full arg7.view (harg7.unread x6) inb_S1024x256_S1024x256_0_0).trans hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; refine (View.read_writes_full _ _ _ _ _).trans ?_; unfold hTile; rfl
    isplitl [H8]
    · iexists _; isplitr; swap; · iexact H8
      ipureintro; exact hf8
    isplitl [H9]
    · iexists _; isplitr; swap; · iexact H9
      ipureintro; exact hf9
    isplitl [HS0]
    · iexists _; isplitr; swap; · iexact HS0
      ipureintro; refine (View.read_writes_cons_put _ _ _ _ _ (k1_off1_eq i)).trans ?_; rw [View.writes_nil, hfs0]; unfold slotPut hSlot; rfl
    iexists _; isplitr; swap; · iexact HS1
    ipureintro; refine (View.read_writes_full _ _ _ _ _).trans ?_; rfl

end Cert.Kernel.Hand

end
-- ==== Proof.K.ProjRunB.lean ====
module

public import proofs.«01_k».proof.Proof.K.ProjBase

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of case B (branches skipped, taken, skipped): from the operands' contents, what it leaves everywhere. -/
theorem runB (c : Dev nD) (i : grid1.Coords) (arg1 : Memref sig .tc .vmem S1024x16384 .fp8e4m3) (harg1 : arg1.IsWhole) (arg2 : Memref sig .tc .vmem S1024x1 .f32) (harg2 : arg2.IsWhole) (arg3 : Memref sig .tc .vmem S1024x64 .bf16) (harg3 : arg3.IsWhole) (arg4 : Memref sig .tc .vmem S16384x256 .fp8e4m3) (harg4 : arg4.IsWhole) (arg5 : Memref sig .tc .vmem S1x256 .f32) (harg5 : arg5.IsWhole) (arg6 : Memref sig .tc .vmem S64x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x5376 .fp8e4m3) (harg9 : arg9.IsWhole) (arg10 : Memref sig .tc .vmem S1024x1 .f32) (harg10 : arg10.IsWhole) (arg11 : Memref sig .tc .vmem S21x1024x256 .bf16) (harg11 : arg11.IsWhole) (arg12 : Memref sig .tc .vmem S1024x1 .f32) (harg12 : arg12.IsWhole) (hc0 : ¬cond1_0 i) (hc1 : cond1_1 i) (hc2 : ¬cond1_2 i)
    (x0 : Vec F S1024x16384 .fp8e4m3) (x1 : Vec F S1024x1 .f32) (x2 : Vec F S1024x64 .bf16) (x3 : Vec F S16384x256 .fp8e4m3) (x4 : Vec F S1x256 .f32) (x5 : Vec F S64x256 .bf16) (x6 : Vec F S1024x256 .bf16) (d : Vec F S21x1024x256 .bf16) (s : Vec F S1024x1 .f32) (y8 : Vec F S1024x5376 .fp8e4m3) (y9 : Vec F S1024x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ owns (c : Thread nD τ) arg10 fullShare y9 ∗ owns (c : Thread nD τ) arg11 fullShare d ∗ owns (c : Thread nD τ) arg12 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hTile x0 x1 x2 x3 x4 x5 x6) ∗ owns (c : Thread nD τ) arg9 fullShare y8 ∗ owns (c : Thread nD τ) arg10 fullShare y9 ∗ owns (c : Thread nD τ) arg11 fullShare (slotPut i d (hSlot x0 x1 x2 x3 x4 x5 x6)) ∗ owns (c : Thread nD τ) arg12 fullShare (k1_pay2 (hMax x0 x1 x2 x3 x4 x5 x6) s)) -∗ K ⟨⟩))
          ⊢ wp frame (wpE (defs₀ (F := F)) Variants.none c none) E (cc1_project i arg1 harg1 arg2 harg2 arg3 harg3 arg4 harg4 arg5 harg5 arg6 harg6 arg7 harg7 arg8 harg8 arg9 harg9 arg10 harg10 arg11 harg11 arg12 harg12) K := by
    simp only [cc1_project_eq_skeleton]; unfold cc1_project_skel
    simp only [k1_part10_eq_skeleton, k1_part9_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0; obtain rfl := harg12.eq_unread hfs1
    have r0 := (View.readAt_full arg1.view (harg1.unread x0) inb_S1024x16384_S1024x16384_0_0).trans hf0
    have r1 := (View.readAt_full arg2.view (harg2.unread x1) inb_S1024x1_S1024x1_0_0).trans hf1
    have r2 := (View.readAt_full arg3.view (harg3.unread x2) inb_S1024x64_S1024x64_0_0).trans hf2
    have r3 := (View.readAt_full arg4.view (harg4.unread x3) inb_S16384x256_S16384x256_0_0).trans hf3
    have r4 := (View.readAt_full arg5.view (harg5.unread x4) inb_S1x256_S1x256_0_0).trans hf4
    have r5 := (View.readAt_full arg6.view (harg6.unread x5) inb_S64x256_S64x256_0_0).trans hf5
    have r6 := (View.readAt_full arg7.view (harg7.unread x6) inb_S1024x256_S1024x256_0_0).trans hf6
    have r12 := (View.readAt_full arg12.view (harg12.unread s) inb_S1024x1_S1024x1_0_0).trans hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; refine (View.read_writes_full _ _ _ _ _).trans ?_; unfold hTile; rfl
    isplitl [H8]
    · iexists _; isplitr; swap; · iexact H8
      ipureintro; exact hf8
    isplitl [H9]
    · iexists _; isplitr; swap; · iexact H9
      ipureintro; exact hf9
    isplitl [HS0]
    · iexists _; isplitr; swap; · iexact HS0
      ipureintro; refine (View.read_writes_cons_put _ _ _ _ _ (k1_off1_eq i)).trans ?_; rw [View.writes_nil, hfs0]; unfold slotPut hSlot; rfl
    iexists _; isplitr; swap; · iexact HS1
    ipureintro; refine (View.read_writes_full _ _ _ _ _).trans ?_; rfl

end Cert.Kernel.Hand

end
-- ==== Proof.K.ProjLoop.lean ====
module

public import proofs.«01_k».proof.Proof.K.ProjBase
public import Idealize.ShloMosaic.Lib.Pipeline.ReadBack

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Tile `q` of the table, rows `32k … 32k+31`. -/
def dBlk (d : Vec F S21x1024x256 .bf16) (q k : ℕ) (hq : q < 21) (hk : k < 32) : Vec F S1x32x256 .bf16 :=
  VecWindow.window (s := S21x1024x256) d ![q, 32 * k, 0] S1x32x256.size (by
    intro a; match a with
    | ⟨0, _⟩ => show q + 1 ≤ 21; omega
    | ⟨1, _⟩ => show 32 * k + 32 ≤ 1024; omega
    | ⟨2, _⟩ => show 0 + 256 ≤ 256; omega)

/-- Rows `32k … 32k+31` of the inverse scales. -/
def vBlk (v : Vec F S1024x1 .f32) (k : ℕ) (hk : k < 32) : Vec F S32x1 .f32 :=
  VecWindow.window (s := S1024x1) v ![32 * k, 0] S32x1.size (by
    intro a; match a with
    | ⟨0, _⟩ => show 32 * k + 32 ≤ 1024; omega
    | ⟨1, _⟩ => show 0 + 1 ≤ 1; omega)

/-- The codes the last loop stores: every block of 32 rows and 256 columns from the table's rows and the rows' inverse scales. -/
def codesOut (d : Vec F S21x1024x256 .bf16) (iv : Vec F S1024x1 .f32) : Vec F S1024x5376 .fp8e4m3 := fun y =>
  k1_pay6 (dBlk d ((y 1).val / 256) ((y 0).val / 32)
      (by have h : (y 1).val < 5376 := (y 1).isLt; omega) (by have h : (y 0).val < 1024 := (y 0).isLt; omega))
    (vBlk iv ((y 0).val / 32) (by have h : (y 0).val < 1024 := (y 0).isLt; omega))
    (fun a => match a with
      | ⟨0, _⟩ => ⟨(y 0).val % 32, Nat.mod_lt _ (by omega)⟩
      | ⟨1, _⟩ => ⟨(y 1).val % 256, Nat.mod_lt _ (by omega)⟩)

/-- `codesOut` at an index of a named block. -/
theorem codesOut_blk (d : Vec F S21x1024x256 .bf16) (iv : Vec F S1024x1 .f32) (q k : ℕ) (hq : q < 21) (hk : k < 32)
    (y : S1024x5376.Idx) (x : S32x256.Idx) (h0 : (y 0).val = 32 * k + (x 0).val) (h1 : (y 1).val = 256 * q + (x 1).val) :
    codesOut d iv y = k1_pay6 (dBlk d q k hq hk) (vBlk iv k hk) x := by
  have hx0 : (x 0).val < 32 := (x 0).isLt
  have hx1 : (x 1).val < 256 := (x 1).isLt
  have ek : (y 0).val / 32 = k := by omega
  have eq : (y 1).val / 256 = q := by omega
  subst ek; subst eq
  unfold codesOut
  refine congrArg _ (funext fun a => ?_)
  match a with
  | ⟨0, _⟩ => exact Fin.ext (by show (y 0).val % 32 = (x 0).val; omega)
  | ⟨1, _⟩ => exact Fin.ext (by show (y 1).val % 256 = (x 1).val; omega)

/-- One store of the loop is a block of `codesOut`. -/
theorem piece_blk {arg11 : Memref sig .tc .vmem S21x1024x256 .bf16} {arg12 : Memref sig .tc .vmem S1024x1 .f32}
    {X11 : BufTy.Contents (Elt F) arg11.view.ty} {X12 : BufTy.Contents (Elt F) arg12.view.ty}
    {d : Vec F S21x1024x256 .bf16} {iv : Vec F S1024x1 .f32}
    (h11 : arg11.view.read (Elt F) X11 = d) (h12 : arg12.view.read (Elt F) X12 = iv) (q k : ℕ) (hq : q < 21) (hk : k < 32)
    {o2 : Fin S21x1024x256.rank → ℕ} {o3 : Fin S1024x1.rank → ℕ} {o4 : Fin S1024x5376.rank → ℕ}
    (e2 : o2 = ![q, 32 * k, 0]) (e3 : o3 = ![32 * k, 0]) (e4 : o4 = ![32 * k, 256 * q])
    (i2 : ∀ a, o2 a + S1x32x256.size a ≤ S21x1024x256.size a) (i3 : ∀ a, o3 a + S32x1.size a ≤ S1024x1.size a)
    (i4 : ∀ a, o4 a + S32x256.size a ≤ S1024x5376.size a) (x : S32x256.Idx) :
    k1_pay6 (arg11.view.readAt (Elt F) (Rect.unit o2 S1x32x256.size i2).toLoadRect X11)
        (arg12.view.readAt (Elt F) (Rect.unit o3 S32x1.size i3).toLoadRect X12) x
      = codesOut d iv ((Rect.unit o4 S32x256.size i4).emb x) := by
  subst e2 e3 e4
  rw [codesOut_blk d iv q k hq hk _ x (by show 32 * k + 1 * (x 0).val = _; omega) (by show 256 * q + 1 * (x 1).val = _; omega)]
  rw [View.readAt_unit _ _ i2 rfl i2, View.readAt_unit _ _ i3 rfl i3, h11, h12]
  rfl

/-- An index lies in the block of 32 rows and 256 columns its coordinates divide to. -/
theorem row_mem {o : Fin S1024x5376.rank → ℕ} {k n : ℕ} (e : o = ![32 * k, n]) (i4 : ∀ a, o a + S32x256.size a ≤ S1024x5376.size a)
    {y : S1024x5376.Idx} (hy : (y 0).val / 32 = k) (q : ℕ) (h : n = 256 * q ∧ (y 1).val / 256 = q) :
    y ∈ (Rect.unit o S32x256.size i4).set := by
  subst e
  refine Rect.mem_set_unit.mpr fun a => ?_
  match a with
  | ⟨0, _⟩ => show 32 * k ≤ (y 0).val ∧ (y 0).val < 32 * k + 32; omega
  | ⟨1, _⟩ => show n ≤ (y 1).val ∧ (y 1).val < n + 256; omega

set_option maxHeartbeats 4000000 in
/-- One trip's stores are blocks of `codesOut`. -/
theorem trip_blk (c : Dev nD) (i : grid1.Coords) (arg1 : Memref sig .tc .vmem S1024x16384 .fp8e4m3) (harg1 : arg1.IsWhole) (arg2 : Memref sig .tc .vmem S1024x1 .f32) (harg2 : arg2.IsWhole) (arg3 : Memref sig .tc .vmem S1024x64 .bf16) (harg3 : arg3.IsWhole) (arg4 : Memref sig .tc .vmem S16384x256 .fp8e4m3) (harg4 : arg4.IsWhole) (arg5 : Memref sig .tc .vmem S1x256 .f32) (harg5 : arg5.IsWhole) (arg6 : Memref sig .tc .vmem S64x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x5376 .fp8e4m3) (harg9 : arg9.IsWhole) (arg10 : Memref sig .tc .vmem S1024x1 .f32) (harg10 : arg10.IsWhole) (arg11 : Memref sig .tc .vmem S21x1024x256 .bf16) (harg11 : arg11.IsWhole) (arg12 : Memref sig .tc .vmem S1024x1 .f32) (harg12 : arg12.IsWhole) (k1_h3 : k1_cond3 i = 1#1) (c0_i32_44 : BitVec 32) (X11 : BufTy.Contents (Elt F) arg11.view.ty) (X12 : BufTy.Contents (Elt F) arg12.view.ty) (d : Vec F S21x1024x256 .bf16) (iv : Vec F S1024x1 .f32)
    (h11 : arg11.view.read (Elt F) X11 = d) (h12 : arg12.view.read (Elt F) X12 = iv) (k : Fin k1_t1_loop.trips) :
    View.PiecesOf (codesOut d iv) (tripL_k1_t1 (F := F) Variants.none c none i arg1 harg1 arg2 harg2 arg3 harg3 arg4 harg4 arg5 harg5 arg6 harg6 arg7 harg7 arg8 harg8 arg9 harg9 arg10 harg10 arg11 harg11 arg12 harg12 k1_h3 c0_i32_44 X11 X12 k) := by
  have hk : k.val < 32 := Nat.lt_of_lt_of_le k.isLt k1_t1_abs.2.1
  unfold tripL_k1_t1 trip_k1_t1
  exact ⟨
    fun x => piece_blk h11 h12 20 k.val (by omega) hk (k1_off43_eq k) (k1_off3_eq k) (k1_off44_eq k) (k1_off43_inb i k k1_h3) (k1_off3_inb i k k1_h3) (k1_off44_inb i k k1_h3) x,
    fun x => piece_blk h11 h12 19 k.val (by omega) hk (k1_off41_eq k) (k1_off3_eq k) (k1_off42_eq k) (k1_off41_inb i k k1_h3) (k1_off3_inb i k k1_h3) (k1_off42_inb i k k1_h3) x,
    fun x => piece_blk h11 h12 18 k.val (by omega) hk (k1_off39_eq k) (k1_off3_eq k) (k1_off40_eq k) (k1_off39_inb i k k1_h3) (k1_off3_inb i k k1_h3) (k1_off40_inb i k k1_h3) x,
    fun x => piece_blk h11 h12 17 k.val (by omega) hk (k1_off37_eq k) (k1_off3_eq k) (k1_off38_eq k) (k1_off37_inb i k k1_h3) (k1_off3_inb i k k1_h3) (k1_off38_inb i k k1_h3) x,
    fun x => piece_blk h11 h12 16 k.val (by omega) hk (k1_off35_eq k) (k1_off3_eq k) (k1_off36_eq k) (k1_off35_inb i k k1_h3) (k1_off3_inb i k k1_h3) (k1_off36_inb i k k1_h3) x,
    fun x => piece_blk h11 h12 15 k.val (by omega) hk (k1_off33_eq k) (k1_off3_eq k) (k1_off34_eq k) (k1_off33_inb i k k1_h3) (k1_off3_inb i k k1_h3) (k1_off34_inb i k k1_h3) x,
    fun x => piece_blk h11 h12 14 k.val (by omega) hk (k1_off31_eq k) (k1_off3_eq k) (k1_off32_eq k) (k1_off31_inb i k k1_h3) (k1_off3_inb i k k1_h3) (k1_off32_inb i k k1_h3) x,
    fun x => piece_blk h11 h12 13 k.val (by omega) hk (k1_off29_eq k) (k1_off3_eq k) (k1_off30_eq k) (k1_off29_inb i k k1_h3) (k1_off3_inb i k k1_h3) (k1_off30_inb i k k1_h3) x,
    fun x => piece_blk h11 h12 12 k.val (by omega) hk (k1_off27_eq k) (k1_off3_eq k) (k1_off28_eq k) (k1_off27_inb i k k1_h3) (k1_off3_inb i k k1_h3) (k1_off28_inb i k k1_h3) x,
    fun x => piece_blk h11 h12 11 k.val (by omega) hk (k1_off25_eq k) (k1_off3_eq k) (k1_off26_eq k) (k1_off25_inb i k k1_h3) (k1_off3_inb i k k1_h3) (k1_off26_inb i k k1_h3) x,
    fun x => piece_blk h11 h12 10 k.val (by omega) hk (k1_off23_eq k) (k1_off3_eq k) (k1_off24_eq k) (k1_off23_inb i k k1_h3) (k1_off3_inb i k k1_h3) (k1_off24_inb i k k1_h3) x,
    fun x => piece_blk h11 h12 9 k.val (by omega) hk (k1_off21_eq k) (k1_off3_eq k) (k1_off22_eq k) (k1_off21_inb i k k1_h3) (k1_off3_inb i k k1_h3) (k1_off22_inb i k k1_h3) x,
    fun x => piece_blk h11 h12 8 k.val (by omega) hk (k1_off19_eq k) (k1_off3_eq k) (k1_off20_eq k) (k1_off19_inb i k k1_h3) (k1_off3_inb i k k1_h3) (k1_off20_inb i k k1_h3) x,
    fun x => piece_blk h11 h12 7 k.val (by omega) hk (k1_off17_eq k) (k1_off3_eq k) (k1_off18_eq k) (k1_off17_inb i k k1_h3) (k1_off3_inb i k k1_h3) (k1_off18_inb i k k1_h3) x,
    fun x => piece_blk h11 h12 6 k.val (by omega) hk (k1_off15_eq k) (k1_off3_eq k) (k1_off16_eq k) (k1_off15_inb i k k1_h3) (k1_off3_inb i k k1_h3) (k1_off16_inb i k k1_h3) x,
    fun x => piece_blk h11 h12 5 k.val (by omega) hk (k1_off13_eq k) (k1_off3_eq k) (k1_off14_eq k) (k1_off13_inb i k k1_h3) (k1_off3_inb i k k1_h3) (k1_off14_inb i k k1_h3) x,
    fun x => piece_blk h11 h12 4 k.val (by omega) hk (k1_off11_eq k) (k1_off3_eq k) (k1_off12_eq k) (k1_off11_inb i k k1_h3) (k1_off3_inb i k k1_h3) (k1_off12_inb i k k1_h3) x,
    fun x => piece_blk h11 h12 3 k.val (by omega) hk (k1_off9_eq k) (k1_off3_eq k) (k1_off10_eq k) (k1_off9_inb i k k1_h3) (k1_off3_inb i k k1_h3) (k1_off10_inb i k k1_h3) x,
    fun x => piece_blk h11 h12 2 k.val (by omega) hk (k1_off7_eq k) (k1_off3_eq k) (k1_off8_eq k) (k1_off7_inb i k k1_h3) (k1_off3_inb i k k1_h3) (k1_off8_inb i k k1_h3) x,
    fun x => piece_blk h11 h12 1 k.val (by omega) hk (k1_off5_eq k) (k1_off3_eq k) (k1_off6_eq k) (k1_off5_inb i k k1_h3) (k1_off3_inb i k k1_h3) (k1_off6_inb i k k1_h3) x,
    fun x => piece_blk h11 h12 0 k.val (by omega) hk (k1_off2_eq k) (k1_off3_eq k) (k1_off4_eq k) (k1_off2_inb i k k1_h3) (k1_off3_inb i k k1_h3) (k1_off4_inb i k k1_h3) x,
    trivial⟩

set_option maxHeartbeats 4000000 in
/-- One trip's stores cover its 32 rows. -/
theorem trip_cover (c : Dev nD) (i : grid1.Coords) (arg1 : Memref sig .tc .vmem S1024x16384 .fp8e4m3) (harg1 : arg1.IsWhole) (arg2 : Memref sig .tc .vmem S1024x1 .f32) (harg2 : arg2.IsWhole) (arg3 : Memref sig .tc .vmem S1024x64 .bf16) (harg3 : arg3.IsWhole) (arg4 : Memref sig .tc .vmem S16384x256 .fp8e4m3) (harg4 : arg4.IsWhole) (arg5 : Memref sig .tc .vmem S1x256 .f32) (harg5 : arg5.IsWhole) (arg6 : Memref sig .tc .vmem S64x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x5376 .fp8e4m3) (harg9 : arg9.IsWhole) (arg10 : Memref sig .tc .vmem S1024x1 .f32) (harg10 : arg10.IsWhole) (arg11 : Memref sig .tc .vmem S21x1024x256 .bf16) (harg11 : arg11.IsWhole) (arg12 : Memref sig .tc .vmem S1024x1 .f32) (harg12 : arg12.IsWhole) (k1_h3 : k1_cond3 i = 1#1) (c0_i32_44 : BitVec 32) (X11 : BufTy.Contents (Elt F) arg11.view.ty) (X12 : BufTy.Contents (Elt F) arg12.view.ty) (k : Fin k1_t1_loop.trips)
    (y : S1024x5376.Idx) (hy : (y 0).val / 32 = k.val) : ∃ p ∈ tripL_k1_t1 (F := F) Variants.none c none i arg1 harg1 arg2 harg2 arg3 harg3 arg4 harg4 arg5 harg5 arg6 harg6 arg7 harg7 arg8 harg8 arg9 harg9 arg10 harg10 arg11 harg11 arg12 harg12 k1_h3 c0_i32_44 X11 X12 k, y ∈ p.1.set := by
  unfold tripL_k1_t1 trip_k1_t1
  dsimp only
  have h1 : (y 1).val < 5376 := (y 1).isLt
  have hq : (y 1).val / 256 < 21 := by omega
  obtain ⟨q, hqe⟩ : ∃ q, (y 1).val / 256 = q := ⟨_, rfl⟩
  rw [hqe] at hq
  have hs : q = 0 ∨ q = 1 ∨ q = 2 ∨ q = 3 ∨ q = 4 ∨ q = 5 ∨ q = 6 ∨ q = 7 ∨ q = 8 ∨ q = 9 ∨ q = 10 ∨ q = 11 ∨ q = 12 ∨ q = 13 ∨ q = 14 ∨ q = 15 ∨ q = 16 ∨ q = 17 ∨ q = 18 ∨ q = 19 ∨ q = 20 := by omega
  rcases hs with rfl | rfl | rfl | rfl | rfl | rfl | rfl | rfl | rfl | rfl | rfl | rfl | rfl | rfl | rfl | rfl | rfl | rfl | rfl | rfl | rfl
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))), ?_⟩
    exact row_mem (k1_off4_eq k) (k1_off4_inb i k k1_h3) hy 0 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))), ?_⟩
    exact row_mem (k1_off6_eq k) (k1_off6_inb i k k1_h3) hy 1 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))), ?_⟩
    exact row_mem (k1_off8_eq k) (k1_off8_inb i k k1_h3) hy 2 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))), ?_⟩
    exact row_mem (k1_off10_eq k) (k1_off10_inb i k k1_h3) hy 3 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), ?_⟩
    exact row_mem (k1_off12_eq k) (k1_off12_inb i k k1_h3) hy 4 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), ?_⟩
    exact row_mem (k1_off14_eq k) (k1_off14_inb i k k1_h3) hy 5 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), ?_⟩
    exact row_mem (k1_off16_eq k) (k1_off16_inb i k k1_h3) hy 6 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), ?_⟩
    exact row_mem (k1_off18_eq k) (k1_off18_inb i k k1_h3) hy 7 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩
    exact row_mem (k1_off20_eq k) (k1_off20_inb i k k1_h3) hy 8 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩
    exact row_mem (k1_off22_eq k) (k1_off22_inb i k k1_h3) hy 9 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩
    exact row_mem (k1_off24_eq k) (k1_off24_inb i k k1_h3) hy 10 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
    exact row_mem (k1_off26_eq k) (k1_off26_inb i k k1_h3) hy 11 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
    exact row_mem (k1_off28_eq k) (k1_off28_inb i k k1_h3) hy 12 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ List.mem_cons_self)))))), ?_⟩
    exact row_mem (k1_off30_eq k) (k1_off30_inb i k k1_h3) hy 13 ⟨rfl, hqe⟩
  · refine ⟨_, List.mem_cons_of_mem _ (List.mem_cons_of_mem _ (List.mem_cons_of_mem _ (List.mem_cons_of_mem _ (List.mem_cons_of_mem _ (List.mem_cons_of_mem _ List.mem_cons_self))))), ?_⟩
    exact row_mem (k1_off32_eq k) (k1_off32_inb i k k1_h3) hy 14 ⟨rfl, hqe⟩
  · refine ⟨_, List.mem_cons_of_mem _ (List.mem_cons_of_mem _ (List.mem_cons_of_mem _ (List.mem_cons_of_mem _ (List.mem_cons_of_mem _ List.mem_cons_self)))), ?_⟩
    exact row_mem (k1_off34_eq k) (k1_off34_inb i k k1_h3) hy 15 ⟨rfl, hqe⟩
  · refine ⟨_, List.mem_cons_of_mem _ (List.mem_cons_of_mem _ (List.mem_cons_of_mem _ (List.mem_cons_of_mem _ List.mem_cons_self))), ?_⟩
    exact row_mem (k1_off36_eq k) (k1_off36_inb i k k1_h3) hy 16 ⟨rfl, hqe⟩
  · refine ⟨_, List.mem_cons_of_mem _ (List.mem_cons_of_mem _ (List.mem_cons_of_mem _ List.mem_cons_self)), ?_⟩
    exact row_mem (k1_off38_eq k) (k1_off38_inb i k k1_h3) hy 17 ⟨rfl, hqe⟩
  · refine ⟨_, List.mem_cons_of_mem _ (List.mem_cons_of_mem _ List.mem_cons_self), ?_⟩
    exact row_mem (k1_off40_eq k) (k1_off40_inb i k k1_h3) hy 18 ⟨rfl, hqe⟩
  · refine ⟨_, List.mem_cons_of_mem _ List.mem_cons_self, ?_⟩
    exact row_mem (k1_off42_eq k) (k1_off42_inb i k k1_h3) hy 19 ⟨rfl, hqe⟩
  · refine ⟨_, List.mem_cons_self, ?_⟩
    exact row_mem (k1_off44_eq k) (k1_off44_inb i k k1_h3) hy 20 ⟨rfl, hqe⟩

/-- The pieces of a list followed by those of another. -/
theorem piecesOf_append {G : S1024x5376.Idx → Elt F .fp8e4m3} :
    ∀ {L L' : List (View.Piece (Elt F) S1024x5376 .fp8e4m3)}, View.PiecesOf G L → View.PiecesOf G L' → View.PiecesOf G (L ++ L')
  | [], _, _, h' => h'
  | _ :: _, _, h, h' => ⟨h.1, piecesOf_append h.2 h'⟩

/-- After `n` trips: every store so far is a block of `codesOut`, and the rows below `32n` are covered. -/
theorem trips_blk (c : Dev nD) (i : grid1.Coords) (arg1 : Memref sig .tc .vmem S1024x16384 .fp8e4m3) (harg1 : arg1.IsWhole) (arg2 : Memref sig .tc .vmem S1024x1 .f32) (harg2 : arg2.IsWhole) (arg3 : Memref sig .tc .vmem S1024x64 .bf16) (harg3 : arg3.IsWhole) (arg4 : Memref sig .tc .vmem S16384x256 .fp8e4m3) (harg4 : arg4.IsWhole) (arg5 : Memref sig .tc .vmem S1x256 .f32) (harg5 : arg5.IsWhole) (arg6 : Memref sig .tc .vmem S64x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x5376 .fp8e4m3) (harg9 : arg9.IsWhole) (arg10 : Memref sig .tc .vmem S1024x1 .f32) (harg10 : arg10.IsWhole) (arg11 : Memref sig .tc .vmem S21x1024x256 .bf16) (harg11 : arg11.IsWhole) (arg12 : Memref sig .tc .vmem S1024x1 .f32) (harg12 : arg12.IsWhole) (k1_h3 : k1_cond3 i = 1#1) (c0_i32_44 : BitVec 32) (X11 : BufTy.Contents (Elt F) arg11.view.ty) (X12 : BufTy.Contents (Elt F) arg12.view.ty) (d : Vec F S21x1024x256 .bf16) (iv : Vec F S1024x1 .f32)
    (h11 : arg11.view.read (Elt F) X11 = d) (h12 : arg12.view.read (Elt F) X12 = iv) :
    ∀ n : ℕ, n ≤ k1_t1_loop.trips → View.PiecesOf (codesOut d iv) (pb_k1_t1 (F := F) Variants.none c none i arg1 harg1 arg2 harg2 arg3 harg3 arg4 harg4 arg5 harg5 arg6 harg6 arg7 harg7 arg8 harg8 arg9 harg9 arg10 harg10 arg11 harg11 arg12 harg12 k1_h3 c0_i32_44 X11 X12 n)
      ∧ ∀ y : S1024x5376.Idx, (y 0).val / 32 < n → ∃ p ∈ pb_k1_t1 (F := F) Variants.none c none i arg1 harg1 arg2 harg2 arg3 harg3 arg4 harg4 arg5 harg5 arg6 harg6 arg7 harg7 arg8 harg8 arg9 harg9 arg10 harg10 arg11 harg11 arg12 harg12 k1_h3 c0_i32_44 X11 X12 n, y ∈ p.1.set
  | 0, _ => ⟨by rw [pb_k1_t1.eq_1]; trivial, fun y h => absurd h (Nat.not_lt_zero _)⟩
  | n + 1, hn => by
    have ih := trips_blk c i arg1 harg1 arg2 harg2 arg3 harg3 arg4 harg4 arg5 harg5 arg6 harg6 arg7 harg7 arg8 harg8 arg9 harg9 arg10 harg10 arg11 harg11 arg12 harg12 k1_h3 c0_i32_44 X11 X12 d iv h11 h12 n (by omega)
    have es := pb_k1_t1_succ (F := F) Variants.none c none i arg1 harg1 arg2 harg2 arg3 harg3 arg4 harg4 arg5 harg5 arg6 harg6 arg7 harg7 arg8 harg8 arg9 harg9 arg10 harg10 arg11 harg11 arg12 harg12 k1_h3 c0_i32_44 X11 X12 ⟨n, hn⟩
    rw [show n + 1 = (⟨n, hn⟩ : Fin k1_t1_loop.trips).val + 1 from rfl, es]
    refine ⟨piecesOf_append (trip_blk c i arg1 harg1 arg2 harg2 arg3 harg3 arg4 harg4 arg5 harg5 arg6 harg6 arg7 harg7 arg8 harg8 arg9 harg9 arg10 harg10 arg11 harg11 arg12 harg12 k1_h3 c0_i32_44 X11 X12 d iv h11 h12 _) ih.1, fun y hy => ?_⟩
    by_cases h : (y 0).val / 32 < n
    · obtain ⟨p, hp, hm⟩ := ih.2 y h
      exact ⟨p, List.mem_append_right _ hp, hm⟩
    · obtain ⟨p, hp, hm⟩ := trip_cover (F := F) c i arg1 harg1 arg2 harg2 arg3 harg3 arg4 harg4 arg5 harg5 arg6 harg6 arg7 harg7 arg8 harg8 arg9 harg9 arg10 harg10 arg11 harg11 arg12 harg12 k1_h3 c0_i32_44 X11 X12 ⟨n, hn⟩ y (by
        have : (y 0).val / 32 < n + 1 := hy
        show (y 0).val / 32 = n; omega)
      exact ⟨p, List.mem_append_left _ hp, hm⟩

theorem trips_eq : k1_t1_loop.trips = 32 := by decide +kernel

/-- The codes after the loop, whatever was in the buffer before. -/
theorem loop_read (c : Dev nD) (i : grid1.Coords) (arg1 : Memref sig .tc .vmem S1024x16384 .fp8e4m3) (harg1 : arg1.IsWhole) (arg2 : Memref sig .tc .vmem S1024x1 .f32) (harg2 : arg2.IsWhole) (arg3 : Memref sig .tc .vmem S1024x64 .bf16) (harg3 : arg3.IsWhole) (arg4 : Memref sig .tc .vmem S16384x256 .fp8e4m3) (harg4 : arg4.IsWhole) (arg5 : Memref sig .tc .vmem S1x256 .f32) (harg5 : arg5.IsWhole) (arg6 : Memref sig .tc .vmem S64x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x5376 .fp8e4m3) (harg9 : arg9.IsWhole) (arg10 : Memref sig .tc .vmem S1024x1 .f32) (harg10 : arg10.IsWhole) (arg11 : Memref sig .tc .vmem S21x1024x256 .bf16) (harg11 : arg11.IsWhole) (arg12 : Memref sig .tc .vmem S1024x1 .f32) (harg12 : arg12.IsWhole) (k1_h3 : k1_cond3 i = 1#1) (c0_i32_44 : BitVec 32) (X11 : BufTy.Contents (Elt F) arg11.view.ty) (X12 : BufTy.Contents (Elt F) arg12.view.ty) (d : Vec F S21x1024x256 .bf16) (iv : Vec F S1024x1 .f32)
    (h11 : arg11.view.read (Elt F) X11 = d) (h12 : arg12.view.read (Elt F) X12 = iv) (G9 : BufTy.Contents (Elt F) arg9.view.ty) :
    arg9.view.read (Elt F) (arg9.view.writes (Elt F) G9 (pb_k1_t1 (F := F) Variants.none c none i arg1 harg1 arg2 harg2 arg3 harg3 arg4 harg4 arg5 harg5 arg6 harg6 arg7 harg7 arg8 harg8 arg9 harg9 arg10 harg10 arg11 harg11 arg12 harg12 k1_h3 c0_i32_44 X11 X12 k1_t1_loop.trips)) = codesOut d iv := by
  have h := trips_blk c i arg1 harg1 arg2 harg2 arg3 harg3 arg4 harg4 arg5 harg5 arg6 harg6 arg7 harg7 arg8 harg8 arg9 harg9 arg10 harg10 arg11 harg11 arg12 harg12 k1_h3 c0_i32_44 X11 X12 d iv h11 h12 _ le_rfl
  funext y
  have hc := h.2 y (by have h0 : (y 0).val < 1024 := (y 0).isLt; rw [trips_eq]; omega)
  rw [View.read_writes_apply_eq_canon _ _ y _ hc]
  exact View.canon_apply_of_pieces _ _ h.1.mem y hc

end Cert.Kernel.Hand

end
-- ==== Proof.K.ProjRunC.lean ====
module

public import proofs.«01_k».proof.Proof.K.ProjLoop

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of case C (branches skipped, taken, taken): from the operands' contents, what it leaves everywhere. -/
theorem runC (c : Dev nD) (i : grid1.Coords) (arg1 : Memref sig .tc .vmem S1024x16384 .fp8e4m3) (harg1 : arg1.IsWhole) (arg2 : Memref sig .tc .vmem S1024x1 .f32) (harg2 : arg2.IsWhole) (arg3 : Memref sig .tc .vmem S1024x64 .bf16) (harg3 : arg3.IsWhole) (arg4 : Memref sig .tc .vmem S16384x256 .fp8e4m3) (harg4 : arg4.IsWhole) (arg5 : Memref sig .tc .vmem S1x256 .f32) (harg5 : arg5.IsWhole) (arg6 : Memref sig .tc .vmem S64x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x5376 .fp8e4m3) (harg9 : arg9.IsWhole) (arg10 : Memref sig .tc .vmem S1024x1 .f32) (harg10 : arg10.IsWhole) (arg11 : Memref sig .tc .vmem S21x1024x256 .bf16) (harg11 : arg11.IsWhole) (arg12 : Memref sig .tc .vmem S1024x1 .f32) (harg12 : arg12.IsWhole) (hc0 : ¬cond1_0 i) (hc1 : cond1_1 i) (hc2 : cond1_2 i)
    (x0 : Vec F S1024x16384 .fp8e4m3) (x1 : Vec F S1024x1 .f32) (x2 : Vec F S1024x64 .bf16) (x3 : Vec F S16384x256 .fp8e4m3) (x4 : Vec F S1x256 .f32) (x5 : Vec F S64x256 .bf16) (x6 : Vec F S1024x256 .bf16) (d : Vec F S21x1024x256 .bf16) (s : Vec F S1024x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare d ∗ owns (c : Thread nD τ) arg12 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hTile x0 x1 x2 x3 x4 x5 x6) ∗ owns (c : Thread nD τ) arg9 fullShare (codesOut (slotPut i d (hSlot x0 x1 x2 x3 x4 x5 x6)) (fInv (k1_pay2 (hMax x0 x1 x2 x3 x4 x5 x6) s))) ∗ owns (c : Thread nD τ) arg10 fullShare (fScale (k1_pay2 (hMax x0 x1 x2 x3 x4 x5 x6) s)) ∗ owns (c : Thread nD τ) arg11 fullShare (slotPut i d (hSlot x0 x1 x2 x3 x4 x5 x6)) ∗ owns (c : Thread nD τ) arg12 fullShare (fInv (k1_pay2 (hMax x0 x1 x2 x3 x4 x5 x6) s))) -∗ K ⟨⟩))
          ⊢ wp frame (wpE (defs₀ (F := F)) Variants.none c none) E (cc1_project i arg1 harg1 arg2 harg2 arg3 harg3 arg4 harg4 arg5 harg5 arg6 harg6 arg7 harg7 arg8 harg8 arg9 harg9 arg10 harg10 arg11 harg11 arg12 harg12) K := by
    simp only [cc1_project_eq_skeleton]; unfold cc1_project_skel
    simp only [k1_part10_eq_skeleton, k1_part9_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0; obtain rfl := harg12.eq_unread hfs1
    have r0 := (View.readAt_full arg1.view (harg1.unread x0) inb_S1024x16384_S1024x16384_0_0).trans hf0
    have r1 := (View.readAt_full arg2.view (harg2.unread x1) inb_S1024x1_S1024x1_0_0).trans hf1
    have r2 := (View.readAt_full arg3.view (harg3.unread x2) inb_S1024x64_S1024x64_0_0).trans hf2
    have r3 := (View.readAt_full arg4.view (harg4.unread x3) inb_S16384x256_S16384x256_0_0).trans hf3
    have r4 := (View.readAt_full arg5.view (harg5.unread x4) inb_S1x256_S1x256_0_0).trans hf4
    have r5 := (View.readAt_full arg6.view (harg6.unread x5) inb_S64x256_S64x256_0_0).trans hf5
    have r6 := (View.readAt_full arg7.view (harg7.unread x6) inb_S1024x256_S1024x256_0_0).trans hf6
    have r12 := (View.readAt_full arg12.view (harg12.unread s) inb_S1024x1_S1024x1_0_0).trans hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; refine (View.read_writes_full _ _ _ _ _).trans ?_; unfold hTile; rfl
    isplitl [H8]
    · iexists _; isplitr; swap; · iexact H8
      ipureintro; refine loop_read c i arg1 harg1 arg2 harg2 arg3 harg3 arg4 harg4 arg5 harg5 arg6 harg6 arg7 harg7 arg8 harg8 arg9 harg9 arg10 harg10 arg11 harg11 arg12 harg12 _ _ _ _ _ _ ?_ ?_ _
      · refine (View.read_writes_cons_put _ _ _ _ _ (k1_off1_eq i)).trans ?_; rw [View.writes_nil, hfs0]; unfold slotPut hSlot; rfl
      · refine (View.read_writes_full _ _ _ _ _).trans ?_; change fInv _ = fInv _; refine congrArg fInv ?_; exact View.readCov_full _ _ _ _ _
    isplitl [H9]
    · iexists _; isplitr; swap; · iexact H9
      ipureintro; refine (View.read_writes_full _ _ _ _ _).trans ?_; change fScale _ = fScale _; refine congrArg fScale ?_; exact View.readCov_full _ _ _ _ _
    isplitl [HS0]
    · iexists _; isplitr; swap; · iexact HS0
      ipureintro; refine (View.read_writes_cons_put _ _ _ _ _ (k1_off1_eq i)).trans ?_; rw [View.writes_nil, hfs0]; unfold slotPut hSlot; rfl
    iexists _; isplitr; swap; · iexact HS1
    ipureintro; refine (View.read_writes_full _ _ _ _ _).trans ?_; change fInv _ = fInv _; refine congrArg fInv ?_; exact View.readCov_full _ _ _ _ _

end Cert.Kernel.Hand

end
-- ==== Proof.K.Project.lean ====
module

public import proofs.«01_k».proof.Proof.K.ProjRunA
public import proofs.«01_k».proof.Proof.K.ProjRunB
public import proofs.«01_k».proof.Proof.K.ProjRunC
public import proofs.«01_k».proof.Proof.Gen.Kernel.Points
public import Idealize.ShloMosaic.Lib.Pipeline.FrameBody

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (U : (b : Ref sig .tc) → Buf (Elt F) ((c : Thread nD τ).loc b))

/-- Window `w`'s block at point `t` of the second call, read off its array as the call finds it. -/
def iblk1 (w : Fin cfg1.W) (t : Fin cfg1.N) : ((cfg1.win w).xblock (cfg1.grid.coords t)).Idx → Elt F (cfg1.win w).elt :=
  ((cfg1.win w).blk t).view.read (Elt F) (U (Pipeline.arrRef spec1 w))

theorem before1_0_of {c : Dev nD} (U : (b : Ref sig .tc) → Buf (Elt F) ((c : Thread nD τ).loc b)) (dat : Dat τ (Elt F) Unit ℕ (UR sig nD τ) ℕ cfg1 c) (hA : dat.A 0 = U (Pipeline.arrRef spec1 0))
    (hafter : ∀ t, dat.after 0 t = iblk1 c U 0 t) (t : Fin cfg1.N) (d) : dat.before 0 t d = iblk1 c U 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (U : (b : Ref sig .tc) → Buf (Elt F) ((c : Thread nD τ).loc b)) (dat : Dat τ (Elt F) Unit ℕ (UR sig nD τ) ℕ cfg1 c) (hA : dat.A 1 = U (Pipeline.arrRef spec1 1))
    (hafter : ∀ t, dat.after 1 t = iblk1 c U 1 t) (t : Fin cfg1.N) (d) : dat.before 1 t d = iblk1 c U 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (U : (b : Ref sig .tc) → Buf (Elt F) ((c : Thread nD τ).loc b)) (dat : Dat τ (Elt F) Unit ℕ (UR sig nD τ) ℕ cfg1 c) (hA : dat.A 2 = U (Pipeline.arrRef spec1 2))
    (hafter : ∀ t, dat.after 2 t = iblk1 c U 2 t) (t : Fin cfg1.N) (d) : dat.before 2 t d = iblk1 c U 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (U : (b : Ref sig .tc) → Buf (Elt F) ((c : Thread nD τ).loc b)) (dat : Dat τ (Elt F) Unit ℕ (UR sig nD τ) ℕ cfg1 c) (hA : dat.A 3 = U (Pipeline.arrRef spec1 3))
    (hafter : ∀ t, dat.after 3 t = iblk1 c U 3 t) (t : Fin cfg1.N) (d) : dat.before 3 t d = iblk1 c U 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (U : (b : Ref sig .tc) → Buf (Elt F) ((c : Thread nD τ).loc b)) (dat : Dat τ (Elt F) Unit ℕ (UR sig nD τ) ℕ cfg1 c) (hA : dat.A 4 = U (Pipeline.arrRef spec1 4))
    (hafter : ∀ t, dat.after 4 t = iblk1 c U 4 t) (t : Fin cfg1.N) (d) : dat.before 4 t d = iblk1 c U 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (U : (b : Ref sig .tc) → Buf (Elt F) ((c : Thread nD τ).loc b)) (dat : Dat τ (Elt F) Unit ℕ (UR sig nD τ) ℕ cfg1 c) (hA : dat.A 5 = U (Pipeline.arrRef spec1 5))
    (hafter : ∀ t, dat.after 5 t = iblk1 c U 5 t) (t : Fin cfg1.N) (d) : dat.before 5 t d = iblk1 c U 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (U : (b : Ref sig .tc) → Buf (Elt F) ((c : Thread nD τ).loc b)) (dat : Dat τ (Elt F) Unit ℕ (UR sig nD τ) ℕ cfg1 c) (hA : dat.A 6 = U (Pipeline.arrRef spec1 6))
    (hafter : ∀ t, dat.after 6 t = iblk1 c U 6 t) (t : Fin cfg1.N) (d) : dat.before 6 t d = iblk1 c U 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The tile of the result at point `t`. -/
def tileAt (t : Fin cfg1.N) : FVec F S1024x256 .bf16 := hTile (iblk1 c U 0 t) (iblk1 c U 1 t) (iblk1 c U 2 t) (iblk1 c U 3 t) (iblk1 c U 4 t) (iblk1 c U 5 t) (iblk1 c U 6 t)
/-- The same tile as the body keeps it in the table. -/
def slotAt (t : Fin cfg1.N) : FVec F S1x1024x256 .bf16 := hSlot (iblk1 c U 0 t) (iblk1 c U 1 t) (iblk1 c U 2 t) (iblk1 c U 3 t) (iblk1 c U 4 t) (iblk1 c U 5 t) (iblk1 c U 6 t)
/-- Its row maxima of absolute values. -/
def maxAt (t : Fin cfg1.N) : FVec F S1024x1 .f32 := hMax (iblk1 c U 0 t) (iblk1 c U 1 t) (iblk1 c U 2 t) (iblk1 c U 3 t) (iblk1 c U 4 t) (iblk1 c U 5 t) (iblk1 c U 6 t)

/-- The running row maxima after point `n`. -/
def rmax : (n : ℕ) → n < cfg1.N → FVec F S1024x1 .f32
  | 0, hn => k1_pay1 (maxAt c U ⟨0, hn⟩)
  | n + 1, hn => k1_pay2 (maxAt c U ⟨n + 1, hn⟩) (rmax n (Nat.lt_of_succ_lt hn))

/-- The table of all the tiles. -/
def tab : Vec F S21x1024x256 .bf16 := fun y => slotAt c U ⟨(y 0).val, lt_of_lt_of_eq (y 0).isLt (show 21 = cfg1.N from N_1.symm)⟩
  (fun a => match a with
    | ⟨0, _⟩ => ⟨0, Nat.zero_lt_one⟩
    | ⟨1, _⟩ => y 1
    | ⟨2, _⟩ => y 2)

theorem h20 : 20 < cfg1.N := lt_of_lt_of_eq (by omega) (show 21 = cfg1.N from N_1.symm)

/-- The inverse scales stored at the last point. -/
def finInv : FVec F S1024x1 .f32 := fInv (rmax c U 20 h20)
/-- The scales. -/
def finScale : FVec F S1024x1 .f32 := fScale (rmax c U 20 h20)
/-- The codes. -/
def finCodes : Vec F S1024x5376 .fp8e4m3 := codesOut (tab c U) (finInv c U)

theorem rmax_zero (t : Fin cfg1.N) (hz : t.val = 0) : rmax c U t.val t.isLt = k1_pay1 (maxAt c U t) := by
  obtain ⟨n, hn⟩ := t
  cases n with
  | zero => rfl
  | succ n => exact absurd hz (Nat.succ_ne_zero n)

theorem rmax_pos (t : Fin cfg1.N) (hz : 1 ≤ t.val) :
    rmax c U t.val t.isLt = k1_pay2 (maxAt c U t) (rmax c U (t.val - 1) (by omega)) := by
  obtain ⟨n, hn⟩ := t
  cases n with
  | zero => exact absurd hz (Nat.not_succ_le_zero 0)
  | succ n => rfl

theorem coords1_val : ∀ t : Fin cfg1.N, ((grid1.coords t) 0).val = t.val :=
  (by decide +kernel : ∀ t : Fin grid1.N, ((grid1.coords t) 0).val = t.val)

/-- Inside the window just put, the payload at the local coordinates. -/
theorem put_of_mem {α : Type} {s : Shape} (x : s.Idx → α) (off size : Fin s.rank → ℕ) (w : ((a : Fin s.rank) → Fin (size a)) → α) (y : s.Idx)
    (h : ∀ a, off a ≤ (y a).val ∧ (y a).val < off a + size a) (z : (a : Fin s.rank) → Fin (size a)) (hz : ∀ a, (z a).val = (y a).val - off a) :
    VecWindow.put x off size w y = w z := by
  unfold VecWindow.put
  rw [dif_pos h]
  exact congrArg w (funext fun a => Fin.ext (hz a).symm)

/-- Outside it, what was there. -/
theorem put_of_not_mem {α : Type} {s : Shape} (x : s.Idx → α) (off size : Fin s.rank → ℕ) (w : ((a : Fin s.rank) → Fin (size a)) → α) (y : s.Idx)
    (h : ¬ ∀ a, off a ≤ (y a).val ∧ (y a).val < off a + size a) : VecWindow.put x off size w y = x y := by
  unfold VecWindow.put
  rw [dif_neg h]

/-- The table agrees with the final one in the slots of the points before `n`. -/
def TabUpto (d : Vec F S21x1024x256 .bf16) (n : ℕ) : Prop := ∀ y : S21x1024x256.Idx, (y 0).val < n → d y = tab c U y

theorem tabUpto_put {d : Vec F S21x1024x256 .bf16} {t : Fin cfg1.N} (h : TabUpto c U d t.val) :
    TabUpto c U (slotPut (grid1.coords t) d (slotAt c U t)) (t.val + 1) := by
  intro y hy
  have e := coords1_val t
  have hy1 : (y 1).val < 1024 := (y 1).isLt
  have hy2 : (y 2).val < 256 := (y 2).isLt
  unfold slotPut
  by_cases hyt : (y 0).val = t.val
  · have hin : ∀ a, (![((grid1.coords t) 0).val, 0, 0] : Fin S21x1024x256.rank → ℕ) a ≤ (y a).val
        ∧ (y a).val < (![((grid1.coords t) 0).val, 0, 0] : Fin S21x1024x256.rank → ℕ) a + S1x1024x256.size a := by
      intro a
      match a with
      | ⟨0, _⟩ => show ((grid1.coords t) 0).val ≤ (y 0).val ∧ (y 0).val < ((grid1.coords t) 0).val + 1; omega
      | ⟨1, _⟩ => show 0 ≤ (y 1).val ∧ (y 1).val < 0 + 1024; omega
      | ⟨2, _⟩ => show 0 ≤ (y 2).val ∧ (y 2).val < 0 + 256; omega
    have et : (⟨(y 0).val, lt_of_lt_of_eq (y 0).isLt (show 21 = cfg1.N from N_1.symm)⟩ : Fin cfg1.N) = t := Fin.ext hyt
    unfold tab
    rw [et]
    refine put_of_mem (s := S21x1024x256) d _ S1x1024x256.size _ y hin _ fun a => ?_
    match a with
    | ⟨0, _⟩ => show 0 = (y 0).val - ((grid1.coords t) 0).val; omega
    | ⟨1, _⟩ => show (y 1).val = (y 1).val - 0; omega
    | ⟨2, _⟩ => show (y 2).val = (y 2).val - 0; omega
  · refine (put_of_not_mem (s := S21x1024x256) d _ S1x1024x256.size _ y fun hin => ?_).trans (h y (by omega))
    have h0 : ((grid1.coords t) 0).val ≤ (y 0).val ∧ (y 0).val < ((grid1.coords t) 0).val + 1 := hin 0
    omega

theorem tabUpto_all {d : Vec F S21x1024x256 .bf16} (h : TabUpto c U d 21) : d = tab c U :=
  funext fun y => h y (y 0).isLt

theorem tabUpto_zero (d : Vec F S21x1024x256 .bf16) : TabUpto c U d 0 := fun _ h => absurd h (Nat.not_lt_zero _)

abbrev scM1_0 : Memref sig .tc .vmem S21x1024x256 .bf16 := Memref.whole cc1_scratch0
abbrev scM1_1 : Memref sig .tc .vmem S1024x1 .f32 := Memref.whole cc1_scratch1

/-- What the second call leaves alone: the first call's staging buffers and the generator's register. -/
def gRest (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)) ∗ (∃ r, prngReg c r))

/-- What the second call starts from: its two scratch buffers at anything, and the rest. -/
def Phi0 (c : Dev nD) : sProp 𝕄 :=
  iprop(iprop((∃ d, owns (c : Thread nD τ) scM1_0 fullShare d) ∗ (∃ d, owns (c : Thread nD τ) scM1_1 fullShare d)) ∗ gRest (F := F) c)

theorem PhiA1_in (c : Dev nD) : (Pipeline.ΦA spec1 c : sProp 𝕄) ⊢ Phi0 (F := F) c := by
  unfold Pipeline.ΦA Phi0 gRest; rw [scopedRest1_eq]; simp only [scM1_0, scM1_1, owns_whole]
  iintro ⟨⟨A0, A1, A2, A3, A4, A5, A6, A7, A8, S0, S1⟩, G⟩
  isplitl [S0 S1]
  · isplitl [S0]; · iexact S0
    iexact S1
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  iexact G

theorem PhiA1_out (c : Dev nD) : Phi0 (F := F) c ⊢ (Pipeline.ΦA spec1 c : sProp 𝕄) := by
  unfold Pipeline.ΦA Phi0 gRest; rw [scopedRest1_eq]; simp only [scM1_0, scM1_1, owns_whole]
  iintro ⟨⟨S0, S1⟩, ⟨A0, A1, A2, A3, A4, A5, A6, A7, A8⟩, G⟩
  isplitl [S0 S1 A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [S0]; · iexact S0
    iexact S1
  iexact G

/-- What the second call keeps in scratch before position `n`: the tiles so far and the running row maxima. -/
def PhiS : (n : ℕ) → n ≤ cfg1.N → sProp 𝕄
  | 0, _ => Phi0 c
  | n + 1, hn => iprop(iprop((∃ d, owns (c : Thread nD τ) scM1_0 fullShare d ∗ ⌜TabUpto c U d (n + 1)⌝)
      ∗ (∃ s, owns (c : Thread nD τ) scM1_1 fullShare s ∗ ⌜n < 20 → s = rmax c U n hn⌝)) ∗ gRest (F := F) c)

theorem PhiS_zero (n : ℕ) (h : n ≤ cfg1.N) (hz : n = 0) : PhiS c U n h = Phi0 c := by
  subst hz; rfl

theorem PhiS_succ (n : ℕ) (hn : n < cfg1.N) :
    PhiS c U (n + 1) hn = iprop(iprop((∃ d, owns (c : Thread nD τ) scM1_0 fullShare d ∗ ⌜TabUpto c U d (n + 1)⌝)
      ∗ (∃ s, owns (c : Thread nD τ) scM1_1 fullShare s ∗ ⌜n < 20 → s = rmax c U n hn⌝)) ∗ gRest (F := F) c) := rfl

theorem PhiS_pos (n : ℕ) (h : n ≤ cfg1.N) (hz : n ≠ 0) :
    PhiS c U n h = iprop(iprop((∃ d, owns (c : Thread nD τ) scM1_0 fullShare d ∗ ⌜TabUpto c U d n⌝)
      ∗ (∃ s, owns (c : Thread nD τ) scM1_1 fullShare s ∗ ⌜n - 1 < 20 → s = rmax c U (n - 1) (by omega)⌝)) ∗ gRest (F := F) c) := by
  cases n with
  | zero => exact absurd rfl hz
  | succ n => rfl

/-- The second call's proof data: the arrays as the call finds them, what the body leaves in every window at every point, and what it keeps in scratch. -/
def dat1 : Dat τ (Elt F) Unit ℕ (UR sig nD τ) ℕ cfg1 c where
  A w := U (Pipeline.arrRef spec1 w)
  after w t := match w with
    | ⟨0, _⟩ => iblk1 c U 0 t
    | ⟨1, _⟩ => iblk1 c U 1 t
    | ⟨2, _⟩ => iblk1 c U 2 t
    | ⟨3, _⟩ => iblk1 c U 3 t
    | ⟨4, _⟩ => iblk1 c U 4 t
    | ⟨5, _⟩ => iblk1 c U 5 t
    | ⟨6, _⟩ => iblk1 c U 6 t
    | ⟨7, _⟩ => tileAt c U t
    | ⟨8, _⟩ => finCodes c U
    | ⟨9, _⟩ => finScale c U
  Φ t := PhiS c U t.val (Nat.le_of_lt_succ t.isLt)
  q _ := fullShare
  owed _ := 0

theorem A1_eq (w : Fin cfg1.W) : (dat1 c U).A w = U (Pipeline.arrRef spec1 w) := by dsimp only [dat1]

theorem PhiS_castSucc (t : Fin cfg1.N) : (dat1 c U).Φ t.castSucc = PhiS c U t.val (Nat.le_of_lt t.isLt) := by
  dsimp only [dat1]; exact Pipeline.Dat.Φ_castSucc (PhiS c U) t

theorem after1_0 (t : Fin cfg1.N) : (dat1 c U).after 0 t = iblk1 c U 0 t := by dsimp only [dat1]
theorem after1_1 (t : Fin cfg1.N) : (dat1 c U).after 1 t = iblk1 c U 1 t := by dsimp only [dat1]
theorem after1_2 (t : Fin cfg1.N) : (dat1 c U).after 2 t = iblk1 c U 2 t := by dsimp only [dat1]
theorem after1_3 (t : Fin cfg1.N) : (dat1 c U).after 3 t = iblk1 c U 3 t := by dsimp only [dat1]
theorem after1_4 (t : Fin cfg1.N) : (dat1 c U).after 4 t = iblk1 c U 4 t := by dsimp only [dat1]
theorem after1_5 (t : Fin cfg1.N) : (dat1 c U).after 5 t = iblk1 c U 5 t := by dsimp only [dat1]
theorem after1_6 (t : Fin cfg1.N) : (dat1 c U).after 6 t = iblk1 c U 6 t := by dsimp only [dat1]
theorem after1_7 (t : Fin cfg1.N) : (dat1 c U).after 7 t = tileAt c U t := by dsimp only [dat1]
theorem after1_8 (t : Fin cfg1.N) : (dat1 c U).after 8 t = finCodes c U := by dsimp only [dat1]
theorem after1_9 (t : Fin cfg1.N) : (dat1 c U).after 9 t = finScale c U := by dsimp only [dat1]
theorem before1_0 (t : Fin cfg1.N) (d) : (dat1 c U).before 0 t d = iblk1 c U 0 t :=
  before1_0_of U (dat1 c U) (A1_eq c U 0) (after1_0 c U) t d
theorem before1_1 (t : Fin cfg1.N) (d) : (dat1 c U).before 1 t d = iblk1 c U 1 t :=
  before1_1_of U (dat1 c U) (A1_eq c U 1) (after1_1 c U) t d
theorem before1_2 (t : Fin cfg1.N) (d) : (dat1 c U).before 2 t d = iblk1 c U 2 t :=
  before1_2_of U (dat1 c U) (A1_eq c U 2) (after1_2 c U) t d
theorem before1_3 (t : Fin cfg1.N) (d) : (dat1 c U).before 3 t d = iblk1 c U 3 t :=
  before1_3_of U (dat1 c U) (A1_eq c U 3) (after1_3 c U) t d
theorem before1_4 (t : Fin cfg1.N) (d) : (dat1 c U).before 4 t d = iblk1 c U 4 t :=
  before1_4_of U (dat1 c U) (A1_eq c U 4) (after1_4 c U) t d
theorem before1_5 (t : Fin cfg1.N) (d) : (dat1 c U).before 5 t d = iblk1 c U 5 t :=
  before1_5_of U (dat1 c U) (A1_eq c U 5) (after1_5 c U) t d
theorem before1_6 (t : Fin cfg1.N) (d) : (dat1 c U).before 6 t d = iblk1 c U 6 t :=
  before1_6_of U (dat1 c U) (A1_eq c U 6) (after1_6 c U) t d
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem idleAt1_8 : ∀ t : Fin cfg1.N, t.val ≠ 20 → cfg1.idle 8 (grid1.coords t) = true := by decide +kernel
theorem noFlush1_8 : ∀ t : Fin cfg1.N, t.val ≠ 20 → (cfg1.win 8).flush t = false := by decide +kernel
theorem liveAt1_8 : ∀ t : Fin cfg1.N, t.val = 20 → cfg1.idle 8 (grid1.coords t) = false := by decide +kernel
theorem idleAt1_9 : ∀ t : Fin cfg1.N, t.val ≠ 20 → cfg1.idle 9 (grid1.coords t) = true := by decide +kernel
theorem noFlush1_9 : ∀ t : Fin cfg1.N, t.val ≠ 20 → (cfg1.win 9).flush t = false := by decide +kernel
theorem liveAt1_9 : ∀ t : Fin cfg1.N, t.val = 20 → cfg1.idle 9 (grid1.coords t) = false := by decide +kernel
abbrev ms1_0 (t : Fin cfg1.N) : Memref sig .tc .vmem S1024x16384 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16384x256 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x256 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x5376 .fp8e4m3 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024x1 .f32 := win1_9.stage (cfg1.slots t 9)
abbrev hs1_9 (t : Fin cfg1.N) : (ms1_9 t).IsWhole := hstage1_9 ((cfg1.slots t 9).cast nbuf1_9)

/-- What the body is called with at point `t`, window by window. -/
def bodyPre1 (t : Fin cfg1.N) : sProp 𝕄 :=
  iprop((dat1 c U).Φ t.castSucc ∗ (dat1 c U).owesAt () t.castSucc
    ∗ (∃ d, owns (c : Thread nD τ) (ms1_0 t) fullShare ((dat1 c U).before 0 t d))
    ∗ (∃ d, owns (c : Thread nD τ) (ms1_1 t) fullShare ((dat1 c U).before 1 t d))
    ∗ (∃ d, owns (c : Thread nD τ) (ms1_2 t) fullShare ((dat1 c U).before 2 t d))
    ∗ (∃ d, owns (c : Thread nD τ) (ms1_3 t) fullShare ((dat1 c U).before 3 t d))
    ∗ (∃ d, owns (c : Thread nD τ) (ms1_4 t) fullShare ((dat1 c U).before 4 t d))
    ∗ (∃ d, owns (c : Thread nD τ) (ms1_5 t) fullShare ((dat1 c U).before 5 t d))
    ∗ (∃ d, owns (c : Thread nD τ) (ms1_6 t) fullShare ((dat1 c U).before 6 t d))
    ∗ (∃ d, owns (c : Thread nD τ) (ms1_7 t) fullShare ((dat1 c U).before 7 t d))
    ∗ (∃ d, owns (c : Thread nD τ) (ms1_8 t) fullShare ((dat1 c U).before 8 t d))
    ∗ (∃ d, owns (c : Thread nD τ) (ms1_9 t) fullShare ((dat1 c U).before 9 t d)))

/-- and what it returns. -/
def bodyPost1 (t : Fin cfg1.N) : sProp 𝕄 :=
  iprop((dat1 c U).Φ t.succ ∗ (dat1 c U).owesAt () t.succ
    ∗ (dat1 c U).leavesExact 0 t
    ∗ (dat1 c U).leavesExact 1 t
    ∗ (dat1 c U).leavesExact 2 t
    ∗ (dat1 c U).leavesExact 3 t
    ∗ (dat1 c U).leavesExact 4 t
    ∗ (dat1 c U).leavesExact 5 t
    ∗ (dat1 c U).leavesExact 6 t
    ∗ (dat1 c U).leavesExact 7 t
    ∗ (dat1 c U).leavesExact 8 t
    ∗ (dat1 c U).leavesExact 9 t)

set_option maxHeartbeats 14400000 in
/-- The body at any point. -/
theorem sound_body1 (t : Fin cfg1.N) :
    bodyPre1 c U t ⊢ wp frame (wpE (defs₀ (F := F)) Variants.none c none) Set.univ (bodyAt1 t) (fun _ => bodyPost1 c U t) := by
  unfold bodyPre1 bodyPost1 bodyAt1
  simp only [before1_0, before1_1, before1_2, before1_3, before1_4, before1_5, before1_6]
  rw [show (dat1 c U).owesAt () t.succ = (dat1 c U).owesAt () t.castSucc from rfl]
  rw [show (dat1 c U).Φ t.succ = PhiS c U (t.val + 1) t.isLt from rfl, PhiS_succ]
  have hN : t.val < 21 := lt_of_lt_of_eq t.isLt (show cfg1.N = 21 from N_1)
  rw [show (dat1 c U).leavesExact 0 t = owns (c : Thread nD τ) (ms1_0 t) fullShare ((dat1 c U).after 0 t) from by
    unfold Dat.leavesExact; rw [liveAt1_0 t], after1_0]
  rw [show (dat1 c U).leavesExact 1 t = owns (c : Thread nD τ) (ms1_1 t) fullShare ((dat1 c U).after 1 t) from by
    unfold Dat.leavesExact; rw [liveAt1_1 t], after1_1]
  rw [show (dat1 c U).leavesExact 2 t = owns (c : Thread nD τ) (ms1_2 t) fullShare ((dat1 c U).after 2 t) from by
    unfold Dat.leavesExact; rw [liveAt1_2 t], after1_2]
  rw [show (dat1 c U).leavesExact 3 t = owns (c : Thread nD τ) (ms1_3 t) fullShare ((dat1 c U).after 3 t) from by
    unfold Dat.leavesExact; rw [liveAt1_3 t], after1_3]
  rw [show (dat1 c U).leavesExact 4 t = owns (c : Thread nD τ) (ms1_4 t) fullShare ((dat1 c U).after 4 t) from by
    unfold Dat.leavesExact; rw [liveAt1_4 t], after1_4]
  rw [show (dat1 c U).leavesExact 5 t = owns (c : Thread nD τ) (ms1_5 t) fullShare ((dat1 c U).after 5 t) from by
    unfold Dat.leavesExact; rw [liveAt1_5 t], after1_5]
  rw [show (dat1 c U).leavesExact 6 t = owns (c : Thread nD τ) (ms1_6 t) fullShare ((dat1 c U).after 6 t) from by
    unfold Dat.leavesExact; rw [liveAt1_6 t], after1_6]
  rw [show (dat1 c U).leavesExact 7 t = owns (c : Thread nD τ) (ms1_7 t) fullShare ((dat1 c U).after 7 t) from by
    unfold Dat.leavesExact; rw [liveAt1_7 t], after1_7]
  by_cases hz : t.val = 0
  · rw [Dat.leavesExact_idle (dat1 c U) 8 t (idleAt1_8 t (by omega)) (noFlush1_8 t (by omega))]
    rw [Dat.leavesExact_idle (dat1 c U) 9 t (idleAt1_9 t (by omega)) (noFlush1_9 t (by omega))]
    rw [PhiS_castSucc c U t, PhiS_zero c U _ _ hz, Phi0]
    iintro ⟨⟨⟨⟨%d, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr hz) (fun h => by have := (hcond1_1 t).mp h; omega) (fun h => by have := (hcond1_2 t).mp h; omega) (iblk1 c U 0 t) (iblk1 c U 1 t) (iblk1 c U 2 t) (iblk1 c U 3 t) (iblk1 c U 4 t) (iblk1 c U 5 t) (iblk1 c U 6 t) d _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexists _; isplitl [HS0]; · iexact HS0
          ipureintro; exact tabUpto_put c U (t := t) (by rw [hz]; exact tabUpto_zero c U d)
        iexists _; isplitl [HS1]; · iexact HS1
        ipureintro; intro _h
        exact (rmax_zero c U t hz).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · rw [PhiS_castSucc c U t, PhiS_pos c U _ _ hz]
    by_cases h2 : t.val = 20
    · rw [show (dat1 c U).leavesExact 8 t = owns (c : Thread nD τ) (ms1_8 t) fullShare ((dat1 c U).after 8 t) from by
        unfold Dat.leavesExact; rw [liveAt1_8 t h2], after1_8]
      rw [show (dat1 c U).leavesExact 9 t = owns (c : Thread nD τ) (ms1_9 t) fullShare ((dat1 c U).after 9 t) from by
        unfold Dat.leavesExact; rw [liveAt1_9 t h2], after1_9]
      iintro ⟨⟨⟨⟨%d, HS0, %htab⟩, ⟨%s, HS1, %hs⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have hs' := hs (by omega)
      subst hs'
      iapply (runC c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => hz ((hcond1_0 t).mp h)) ((hcond1_1 t).mpr (by omega)) ((hcond1_2 t).mpr h2) (iblk1 c U 0 t) (iblk1 c U 1 t) (iblk1 c U 2 t) (iblk1 c U 3 t) (iblk1 c U 4 t) (iblk1 c U 5 t) (iblk1 c U 6 t) d (rmax c U (t.val - 1) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexists _; isplitl [HS0]; · iexact HS0
            ipureintro; exact tabUpto_put c U (t := t) htab
          iexists _; isplitl [HS1]; · iexact HS1
          ipureintro; intro _h
          omega
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      have e21 : slotPut (grid1.coords t) d (slotAt c U t) = tab c U :=
        tabUpto_all c U (by have h := tabUpto_put c U (t := t) htab; rw [h2] at h; exact h)
      have em : k1_pay2 (maxAt c U t) (rmax c U (t.val - 1) (by omega)) = rmax c U 20 h20 := by
        rw [← rmax_pos c U t (by omega)]; congr 1
      isplitl [H8]
      · rw [show finCodes c U = codesOut (slotPut (grid1.coords t) d (slotAt c U t)) (fInv (k1_pay2 (maxAt c U t) (rmax c U (t.val - 1) (by omega)))) from by
          rw [e21, em]; rfl]
        iexact H8
      rw [show finScale c U = fScale (k1_pay2 (maxAt c U t) (rmax c U (t.val - 1) (by omega))) from by rw [em]; rfl]
      iexact H9
    · rw [Dat.leavesExact_idle (dat1 c U) 8 t (idleAt1_8 t (by omega)) (noFlush1_8 t (by omega))]
      rw [Dat.leavesExact_idle (dat1 c U) 9 t (idleAt1_9 t (by omega)) (noFlush1_9 t (by omega))]
      iintro ⟨⟨⟨⟨%d, HS0, %htab⟩, ⟨%s, HS1, %hs⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have hs' := hs (by omega)
      subst hs'
      iapply (runB c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => hz ((hcond1_0 t).mp h)) ((hcond1_1 t).mpr (by omega)) (fun h => h2 ((hcond1_2 t).mp h)) (iblk1 c U 0 t) (iblk1 c U 1 t) (iblk1 c U 2 t) (iblk1 c U 3 t) (iblk1 c U 4 t) (iblk1 c U 5 t) (iblk1 c U 6 t) d (rmax c U (t.val - 1) (by omega)) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexists _; isplitl [HS0]; · iexact HS0
            ipureintro; exact tabUpto_put c U (t := t) htab
          iexists _; isplitl [HS1]; · iexact HS1
          ipureintro; intro _h
          exact (rmax_pos c U t (by omega)).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

theorem defs₀_row1 (t : Fin cfg1.N) :
    defs₀ (F := F) .tc cfg1.body (cfg1.bodyArgs t (cfg1.slots t)) = bodyAt1 t := by
  unfold defs₀; rw [Defs.onTc_tc]

/-- The second call's body obligation. -/
theorem body_obligation1 : BodyObligation (dat1 c U) (defs₀ (F := F)) Variants.none () Set.univ := fun t => by
  rw [bigSep_W1, bigSep_W1, defs₀_row1]
  exact triple_restated (sound_body1 c U t) rfl .rfl fun _ => .rfl

theorem hin1 : Pipeline.ΦA spec1 c ⊢ (dat1 c U).Φ 0 := by
  rw [show (dat1 c U).Φ 0 = PhiS c U 0 (Nat.zero_le _) from rfl, PhiS_zero c U 0 _ rfl]
  exact PhiA1_in c

theorem hout1 : (dat1 c U).Φ (Fin.last cfg1.N) ⊢ Pipeline.ΦA spec1 c := by
  rw [show (dat1 c U).Φ (Fin.last cfg1.N) = PhiS c U (Fin.last cfg1.N).val (Nat.le_of_lt_succ (Fin.last cfg1.N).isLt) from rfl,
    PhiS_pos c U _ _ (by rw [Fin.val_last]; have : cfg1.N = 21 := N_1; omega)]
  refine BIBase.Entails.trans ?_ (PhiA1_out c)
  unfold Phi0
  iintro ⟨⟨⟨%d, HS0, -⟩, ⟨%s, HS1, -⟩⟩, Hg⟩
  isplitl [HS0 HS1]
  · isplitl [HS0]
    · iexists _; iexact HS0
    iexists _; iexact HS1
  iexact Hg

end

end Cert.Kernel.Hand

end
-- ==== Proof.K.Ingest.lean ====
/- The first call (quantise the rows of `x` and multiply by `lora_a`): its proof data at any entry contents of the arrays. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it (`U`). -/
def iblk0 (c : Dev nD) (U : (b : Ref sig .tc) → Buf (Elt F) ((c : Thread nD τ).loc b)) (w : Fin cfg0.W) (t : Fin cfg0.N) : ((cfg0.win w).xblock (cfg0.grid.coords t)).Idx → Elt F (cfg0.win w).elt :=
  ((cfg0.win w).blk t).view.read (Elt F) (U (Pipeline.arrRef spec0 w))

/-- Input window 0's current staging buffer holds its block at every point, fetched there or not, for ANY proof
    data whose array is `U`'s (`hA`) and whose body leaves the block in place (`hafter`): Lib/Pipeline/FrameBody.lean
    `Dat.before_in_eq_fetched` (unfetched, the index has not moved), the window uncut and never idle. -/
theorem before0_0_of {c : Dev nD} (U : (b : Ref sig .tc) → Buf (Elt F) ((c : Thread nD τ).loc b)) (dat : Dat τ (Elt F) Unit ℕ (UR sig nD τ) ℕ cfg0 c) (hA : dat.A 0 = U (Pipeline.arrRef spec0 0))
    (hafter : ∀ t, dat.after 0 t = iblk0 c U 0 t) (t : Fin cfg0.N) (d) : dat.before 0 t d = iblk0 c U 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `U`'s (`hA`) and whose body leaves the block in place (`hafter`): Lib/Pipeline/FrameBody.lean
    `Dat.before_in_eq_fetched` (unfetched, the index has not moved), the window uncut and never idle. -/
theorem before0_1_of {c : Dev nD} (U : (b : Ref sig .tc) → Buf (Elt F) ((c : Thread nD τ).loc b)) (dat : Dat τ (Elt F) Unit ℕ (UR sig nD τ) ℕ cfg0 c) (hA : dat.A 1 = U (Pipeline.arrRef spec0 1))
    (hafter : ∀ t, dat.after 1 t = iblk0 c U 1 t) (t : Fin cfg0.N) (d) : dat.before 1 t d = iblk0 c U 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x16384 := Rect.unit (s := S128x16384) ![0, 0] S128x16384.size inb_S128x16384_S128x16384_0_0
abbrev r0_1 : Rect S128x1 := Rect.unit (s := S128x1) ![0, 0] S128x1.size inb_S128x1_S128x1_0_0
abbrev r0_2 : Rect S16384x64 := Rect.unit (s := S16384x64) ![0, 0] S16384x64.size inb_S16384x64_S16384x64_0_0
abbrev r0_3 : Rect S128x64 := Rect.unit (s := S128x64) ![0, 0] S128x64.size inb_S128x64_S128x64_0_0

/-! ## What the body leaves in each output window's buffer -/

/-- The codes the first call stores, from its block of `x`. -/
def codesP (x0 : Vec F S128x16384 .bf16) : Vec F S128x16384 .fp8e4m3 :=
  k0_pay1 (k0_pay8 (k0_pay3 x0) (k0_pay4 x0) (k0_pay5 x0)) (Scalar.ofBits .f32 0x43E00000#32) (k0_pay9 (F := F))
/-- The row scales it stores. -/
def scaleP (x0 : Vec F S128x16384 .bf16) : FVec F S128x1 .f32 := k0_pay7 (k0_pay4 x0) (k0_pay5 x0)
/-- The product with `lora_a` it stores. -/
def tP (x0 : Vec F S128x16384 .bf16) (x1 : Vec F S16384x64 .bf16) : Vec F S128x64 .bf16 := k0_pay2 (k0_pay3 x0) x1

/-- Window 2's staging buffer after the body, from the input windows' blocks: its 1 store as pieces, LAST
    FIRST (Lib/Pipeline/FrameBody.lean `View.canon`; the payloads are the skeleton's and the values stated above). -/
def out0_2 (x0 : Vec F S128x16384 .bf16) (x1 : Vec F S16384x64 .bf16) : Vec F S128x16384 .fp8e4m3 :=
  View.canon [⟨r0_0, codesP (View.ld x0 r0_0)⟩]

/-- Its stores tile the buffer (checked by evaluation), so they cover it. -/
theorem cover0_2 (p0 : Vec F S128x16384 .fp8e4m3) (y : S128x16384.Idx) :
    ∃ pc ∈ ([⟨r0_0, p0⟩] : List (View.Piece (Elt F) S128x16384 .fp8e4m3)), y ∈ pc.1.set :=
  View.cover_of_tiled [⟨r0_0, p0⟩] S128x16384.size (by rfl) y

/-- Window 3's staging buffer after the body, from the input windows' blocks: its 1 store as pieces, LAST
    FIRST (Lib/Pipeline/FrameBody.lean `View.canon`; the payloads are the skeleton's and the values stated above). -/
def out0_3 (x0 : Vec F S128x16384 .bf16) (x1 : Vec F S16384x64 .bf16) : Vec F S128x1 .f32 :=
  View.canon [⟨r0_1, scaleP (View.ld x0 r0_0)⟩]

/-- Its stores tile the buffer (checked by evaluation), so they cover it. -/
theorem cover0_3 (p0 : Vec F S128x1 .f32) (y : S128x1.Idx) :
    ∃ pc ∈ ([⟨r0_1, p0⟩] : List (View.Piece (Elt F) S128x1 .f32)), y ∈ pc.1.set :=
  View.cover_of_tiled [⟨r0_1, p0⟩] S128x1.size (by rfl) y

/-- Window 4's staging buffer after the body, from the input windows' blocks: its 1 store as pieces, LAST
    FIRST (Lib/Pipeline/FrameBody.lean `View.canon`; the payloads are the skeleton's and the values stated above). -/
def out0_4 (x0 : Vec F S128x16384 .bf16) (x1 : Vec F S16384x64 .bf16) : Vec F S128x64 .bf16 :=
  View.canon [⟨r0_3, tP (View.ld x0 r0_0) (View.ld x1 r0_2)⟩]

/-- Its stores tile the buffer (checked by evaluation), so they cover it. -/
theorem cover0_4 (p0 : Vec F S128x64 .bf16) (y : S128x64.Idx) :
    ∃ pc ∈ ([⟨r0_3, p0⟩] : List (View.Piece (Elt F) S128x64 .bf16)), y ∈ pc.1.set :=
  View.cover_of_tiled [⟨r0_3, p0⟩] S128x64.size (by rfl) y

/-! ## The body's triple -/

set_option maxHeartbeats 4000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S128x16384 .bf16) (harg1 : arg1.IsWhole) (arg2 : Memref sig .tc .vmem S16384x64 .bf16) (harg2 : arg2.IsWhole) (arg3 : Memref sig .tc .vmem S128x16384 .fp8e4m3) (harg3 : arg3.IsWhole) (arg4 : Memref sig .tc .vmem S128x1 .f32) (harg4 : arg4.IsWhole) (arg5 : Memref sig .tc .vmem S128x64 .bf16) (harg5 : arg5.IsWhole)
    (x0 : Vec F S128x16384 .bf16) (x1 : Vec F S16384x64 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := F)) Variants.none c none) E (cc0_ingest i arg1 harg1 arg2 harg2 arg3 harg3 arg4 harg4 arg5 harg5) K := by
  simp only [cc0_ingest_eq_skeleton]; unfold cc0_ingest_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

/-! ## The pipeline's proof data -/

variable (c : Dev nD) (U : (b : Ref sig .tc) → Buf (Elt F) ((c : Thread nD τ).loc b))

/-- The proof data of the one pipeline on core `c`: the arrays as the region finds them (`U`); after the body at
    point `t` each input's buffer at its block and each output's at `out0_W` of the input blocks; the invariant the
    class's (Lib/Pipeline/Frame.lean `ΦA`: the scoped rest and the generator register, untouched); nothing owed;
    full shares. -/
def dat0 : Dat τ (Elt F) Unit ℕ (UR sig nD τ) ℕ cfg0 c where
  A w := U (Pipeline.arrRef spec0 w)
  after w t := match w with
    | ⟨0, _⟩ => iblk0 c U 0 t
    | ⟨1, _⟩ => iblk0 c U 1 t
    | ⟨2, _⟩ => out0_2 (iblk0 c U 0 t) (iblk0 c U 1 t)
    | ⟨3, _⟩ => out0_3 (iblk0 c U 0 t) (iblk0 c U 1 t)
    | ⟨4, _⟩ => out0_4 (iblk0 c U 0 t) (iblk0 c U 1 t)
  Φ _ := Pipeline.ΦA spec0 c
  q _ := fullShare
  owed _ := 0

/-- The proof data's arrays are the region-entry contents: the proof data's definition projected (`dsimp`), so that
    `U` — a fold over @main's host prefix, long for some programs — is never unfolded to check it. -/
theorem A0_eq (w : Fin cfg0.W) : (dat0 c U).A w = U (Pipeline.arrRef spec0 w) := by
  dsimp only [dat0]

/-- What the body leaves, window by window (the proof data's `match` reduced by `dsimp`, never `rfl`: Lib/Pipeline.lean `Dat`). -/
theorem after0_0 (t : Fin cfg0.N) : (dat0 c U).after 0 t = iblk0 c U 0 t := by dsimp only [dat0]
theorem after0_1 (t : Fin cfg0.N) : (dat0 c U).after 1 t = iblk0 c U 1 t := by dsimp only [dat0]
theorem after0_2 (t : Fin cfg0.N) : (dat0 c U).after 2 t = out0_2 (iblk0 c U 0 t) (iblk0 c U 1 t) := by dsimp only [dat0]
theorem after0_3 (t : Fin cfg0.N) : (dat0 c U).after 3 t = out0_3 (iblk0 c U 0 t) (iblk0 c U 1 t) := by dsimp only [dat0]
theorem after0_4 (t : Fin cfg0.N) : (dat0 c U).after 4 t = out0_4 (iblk0 c U 0 t) (iblk0 c U 1 t) := by dsimp only [dat0]

/-- Each input's current staging buffer holds its block at every point, fetched there or not (`beforeK_W_of`). -/
theorem before0_0 (t : Fin cfg0.N) (d) : (dat0 c U).before 0 t d = iblk0 c U 0 t :=
  before0_0_of U (dat0 c U) (A0_eq c U 0) (after0_0 c U) t d
theorem before0_1 (t : Fin cfg0.N) (d) : (dat0 c U).before 1 t d = iblk0 c U 1 t :=
  before0_1_of U (dat0 c U) (A0_eq c U 1) (after0_1 c U) t d

/-! ## The body obligation, at a generic point -/

/-- What the body is called with at point `t` (Lib/Pipeline.lean `BodyObligation`'s precondition, the windows one by one), -/
def bodyPre0 (t : Fin cfg0.N) : sProp 𝕄 :=
  iprop((dat0 c U).Φ t.castSucc ∗ (dat0 c U).owesAt () t.castSucc
    ∗ (∃ d, owns (c : Thread nD τ) (st0_0 t) fullShare ((dat0 c U).before 0 t d))
    ∗ (∃ d, owns (c : Thread nD τ) (st0_1 t) fullShare ((dat0 c U).before 1 t d))
    ∗ (∃ d, owns (c : Thread nD τ) (st0_2 t) fullShare ((dat0 c U).before 2 t d))
    ∗ (∃ d, owns (c : Thread nD τ) (st0_3 t) fullShare ((dat0 c U).before 3 t d))
    ∗ (∃ d, owns (c : Thread nD τ) (st0_4 t) fullShare ((dat0 c U).before 4 t d)))

/-- and what it returns. -/
def bodyPost0 (t : Fin cfg0.N) : sProp 𝕄 :=
  iprop((dat0 c U).Φ t.succ ∗ (dat0 c U).owesAt () t.succ
    ∗ owns (c : Thread nD τ) (st0_0 t) fullShare ((dat0 c U).after 0 t)
    ∗ owns (c : Thread nD τ) (st0_1 t) fullShare ((dat0 c U).after 1 t)
    ∗ owns (c : Thread nD τ) (st0_2 t) fullShare ((dat0 c U).after 2 t)
    ∗ owns (c : Thread nD τ) (st0_3 t) fullShare ((dat0 c U).after 3 t)
    ∗ owns (c : Thread nD τ) (st0_4 t) fullShare ((dat0 c U).after 4 t))

/-- The body at any point: the inputs' memrefs hold their blocks (`before0_W`), so `sound_kernel` applies; the invariant and
    the core's `owes` pass through unread. -/
theorem sound_body0 (t : Fin cfg0.N) :
    bodyPre0 c U t ⊢ wp frame (wpE (defs₀ (F := F)) Variants.none c none) Set.univ (bodyAt0 t) (fun _ => bodyPost0 c U t) := by
  unfold bodyPre0 bodyPost0 bodyAt0
  simp only [before0_0, before0_1]
  rw [show (dat0 c U).Φ t.succ = (dat0 c U).Φ t.castSucc from rfl,
    show (dat0 c U).owesAt () t.succ = (dat0 c U).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk0 c U 0 t) (iblk0 c U 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 : BodyObligation (dat0 c U) (defs₀ (F := F)) Variants.none () Set.univ := fun t => by
  rw [bigSep_W0, bigSep_W0, defs₀_row0]
  exact triple_restated (sound_body0 c U t) rfl .rfl fun _ => .rfl

end Cert.Kernel.Hand

end
-- ==== Proof.K.Run.lean ====
/- The two calls as segments of the program: what each leaves in its arrays, and the run of the whole program, every
   buffer read at the end. -/
module

public import proofs.«01_k».proof.Proof.K.Project
public import proofs.«01_k».proof.Proof.K.Ingest
public import proofs.«01_k».proof.Proof.Gen.Kernel.Regions
public import Idealize.ShloMosaic.Lib.Pipeline.RegionsLoop
public import Idealize.ShloMosaic.Lib.Claim
public import Idealize.ShloMosaic.Lib.Tactic

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the first call finds them. -/
abbrev U0 (c : Dev nD) (b : Ref sig .tc) : Buf (Elt F) ((c : Thread nD τ).loc b) := V1 m c b

/-- What the first call leaves in its three results (read at those three only). -/
def outsA (r : Ref sig .tc) (c : Dev nD) : Buf (Elt F) ((c : Thread nD τ).loc r) :=
  Function.update (Function.update (Function.update (U0 m c) main_v2_0 ((dat0 c (U0 m c)).arrAt 2 cfg0.N))
    main_v2_1 ((dat0 c (U0 m c)).arrAt 3 cfg0.N)) main_v2_2 ((dat0 c (U0 m c)).arrAt 4 cfg0.N) r

/-- The buffers as the second call finds them. -/
abbrev U1 (c : Dev nD) (b : Ref sig .tc) : Buf (Elt F) ((c : Thread nD τ).loc b) := V3 m (fun _ r c => outsA m r c) c b

/-- What the second call leaves in its three results. -/
def outsB (r : Ref sig .tc) (c : Dev nD) : Buf (Elt F) ((c : Thread nD τ).loc r) :=
  Function.update (Function.update (Function.update (U1 m c) main_v4_0 ((dat1 c (U1 m c)).arrAt 7 cfg1.N))
    main_v4_1 ((dat1 c (U1 m c)).arrAt 8 cfg1.N)) main_v4_2 ((dat1 c (U1 m c)).arrAt 9 cfg1.N) r

/-- What the calls leave. -/
def outsK : Outs (F := F) := fun J r c => match J with
  | 2 => outsA m r c
  | _ => outsB m r c

theorem outsA_0 (c : Dev nD) : outsA m main_v2_0 c = (dat0 c (U0 m c)).arrAt 2 cfg0.N := by
  unfold outsA
  rw [Function.update_of_ne (by decide), Function.update_of_ne (by decide), Function.update_self]
theorem outsA_1 (c : Dev nD) : outsA m main_v2_1 c = (dat0 c (U0 m c)).arrAt 3 cfg0.N := by
  unfold outsA
  rw [Function.update_of_ne (by decide), Function.update_self]
theorem outsA_2 (c : Dev nD) : outsA m main_v2_2 c = (dat0 c (U0 m c)).arrAt 4 cfg0.N := by
  unfold outsA
  rw [Function.update_self]
theorem outsB_0 (c : Dev nD) : outsB m main_v4_0 c = (dat1 c (U1 m c)).arrAt 7 cfg1.N := by
  unfold outsB
  rw [Function.update_of_ne (by decide), Function.update_of_ne (by decide), Function.update_self]
theorem outsB_1 (c : Dev nD) : outsB m main_v4_1 c = (dat1 c (U1 m c)).arrAt 8 cfg1.N := by
  unfold outsB
  rw [Function.update_of_ne (by decide), Function.update_self]
theorem outsB_2 (c : Dev nD) : outsB m main_v4_2 c = (dat1 c (U1 m c)).arrAt 9 cfg1.N := by
  unfold outsB
  rw [Function.update_self]

theorem V2_v2_0 (c : Dev nD) : V2 m (outsK m) c main_v2_0 = (dat0 c (U0 m c)).arrAt 2 cfg0.N := by
  rw [← outsA_0]
  simp only [V2]
  rw [Function.update_of_ne (StableHlo.devRef_ne_of_ne (by decide)), Function.update_of_ne (StableHlo.devRef_ne_of_ne (by decide)), Function.update_self]
  rfl
theorem V2_v2_1 (c : Dev nD) : V2 m (outsK m) c main_v2_1 = (dat0 c (U0 m c)).arrAt 3 cfg0.N := by
  rw [← outsA_1]
  simp only [V2]
  rw [Function.update_of_ne (StableHlo.devRef_ne_of_ne (by decide)), Function.update_self]
  rfl
theorem V2_v2_2 (c : Dev nD) : V2 m (outsK m) c main_v2_2 = (dat0 c (U0 m c)).arrAt 4 cfg0.N := by
  rw [← outsA_2]
  simp only [V2]
  rw [Function.update_self]
  rfl
theorem V4_v4_0 (c : Dev nD) : V4 m (outsK m) c main_v4_0 = (dat1 c (U1 m c)).arrAt 7 cfg1.N := by
  rw [← outsB_0]
  simp only [V4]
  rw [Function.update_of_ne (StableHlo.devRef_ne_of_ne (by decide)), Function.update_of_ne (StableHlo.devRef_ne_of_ne (by decide)), Function.update_self]
  rfl
theorem V4_v4_1 (c : Dev nD) : V4 m (outsK m) c main_v4_1 = (dat1 c (U1 m c)).arrAt 8 cfg1.N := by
  rw [← outsB_1]
  simp only [V4]
  rw [Function.update_of_ne (StableHlo.devRef_ne_of_ne (by decide)), Function.update_self]
  rfl
theorem V4_v4_2 (c : Dev nD) : V4 m (outsK m) c main_v4_2 = (dat1 c (U1 m c)).arrAt 9 cfg1.N := by
  rw [← outsB_2]
  simp only [V4]
  rw [Function.update_self]
  rfl

/-- The proof data of the two calls. -/
def pdats : (p : Fin 2) → (c : Dev nD) → Dat τ (Elt F) Unit ℕ (UR sig nD τ) ℕ (cfgs p) c
  | ⟨0, _⟩ => fun c => dat0 c (U0 m c)
  | ⟨1, _⟩ => fun c => dat1 c (U1 m c)

/-- No core owes another anything: no level is assigned. -/
abbrev LL : GSem nD τ sig → Finset Unit := fun _ => ∅
abbrev lvl : GSem nD τ sig → Unit → ℕ := fun _ _ => 0

/-- What rides along beside the buffers between the items: the generator's register, and nothing owed. -/
abbrev EE (_ : Fin 3) (c : Dev nD) : sProp 𝕄 := iprop((∃ r, prngReg c r) ∗ ∃ W, owes (c : Thread nD τ) (0 : CellTallies nD τ sig Unit) W)

-- the lemmas stated over a pinned configuration unify only when unification may unfold plain definitions in a metavariable's type
set_option backward.isDefEq.respectTransparency.types false in
set_option maxHeartbeats 4000000 in
/-- Call 0 over the thread state "every unscoped buffer at the valuation, the register, nothing owed". -/
def reg0 : RegionSeg (pcfgs (F := F)) adm (pdats m) () defs₀ Variants.none LL lvl 0 where
  win := launch0.win.to₀
  block_pos := launch0.block_pos
  stage_whole := launch0.stage_whole
  K := PEmpty
  osem k := k.elim
  ho := Pipeline.OwnSemFacts.none _
  hbody c := (body_obligation0 c (U0 m c)).loose
  hwaits := Pipeline.hwaits_of_owed_zero _ _ _ _ LL lvl 0 fun _ _ => rfl
  pre c := iprop(StableHlo.held (c : Thread nD τ) (Pipeline.ucRefs τ sig) (V1 m c) ∗ EE 0 c)
  post c := iprop(StableHlo.held (c : Thread nD τ) (Pipeline.ucRefs τ sig) (V2 m (outsK m) c) ∗ EE 1 c)
  X c := iprop(∃ r, prngReg c r)
  Y c := iprop(∃ r, prngReg c r)
  Z c := iprop(Pipeline.unscopedRest (Ix := Unit) (Name := ℕ) (U := UR sig nD τ) (Lvl := ℕ) spec0 c (fun b => V1 m c b))
  hentry c := by
    rw [Pipeline.ownSems0_none, ← Pipeline.unscopedBufs_held (Ix := Unit) (Name := ℕ) (U := UR sig nD τ) (Lvl := ℕ) c (V1 m c)]
    have hsplit := Pipeline.arrays_of_unscopedBufs (p := 0) (pcfgs (F := F)) adm (pdats m) launch0.win launch0.arr_whole c
      ((pdats m 0 c).share_full fun _ => rfl) (fun b => V1 m c b) fun w => A0_eq c (U0 m c) w
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR]; · iexact HR
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    rw [← Pipeline.unscopedBufs_held (Ix := Unit) (Name := ℕ) (U := UR sig nD τ) (Lvl := ℕ) c (V2 m (outsK m) c)]
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => V1 m c b) (fun b => V2 m (outsK m) c b) ((pdats m 0 c).arrAt · cfg0.N)
      (fun w => by
        match w with
        | ⟨0, _⟩ => exact ((dat0 c (U0 m c)).arrAt_in 0 rfl _).trans ((A0_eq c (U0 m c) 0).trans (V2_of m (outsK m) c main_v0 (by decide)).symm)
        | ⟨1, _⟩ => exact ((dat0 c (U0 m c)).arrAt_in 1 rfl _).trans ((A0_eq c (U0 m c) 1).trans (V2_of m (outsK m) c main_arg4 (by decide)).symm)
        | ⟨2, _⟩ => exact (V2_v2_0 m c).symm
        | ⟨3, _⟩ => exact (V2_v2_1 m c).symm
        | ⟨4, _⟩ => exact (V2_v2_2 m c).symm
        )
      (fun b hb => V2_of m (outsK m) c b fun h => hb (by
        simp only [List.mem_cons, List.not_mem_nil, _root_.or_false] at h
        rcases h with h | h | h
        · exact h ▸ Finset.mem_image.mpr ⟨2, Finset.mem_univ _, rfl⟩
        · exact h ▸ Finset.mem_image.mpr ⟨3, Finset.mem_univ _, rfl⟩
        · exact h ▸ Finset.mem_image.mpr ⟨4, Finset.mem_univ _, rfl⟩))
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- the lemmas stated over a pinned configuration unify only when unification may unfold plain definitions in a metavariable's type
set_option backward.isDefEq.respectTransparency.types false in
set_option maxHeartbeats 4000000 in
/-- Call 1 over the thread state "every unscoped buffer at the valuation, the register, nothing owed". -/
def reg1 : RegionSeg (pcfgs (F := F)) adm (pdats m) () defs₀ Variants.none LL lvl 1 where
  win := launch1.win.to₀
  block_pos := launch1.block_pos
  stage_whole := launch1.stage_whole
  K := PEmpty
  osem k := k.elim
  ho := Pipeline.OwnSemFacts.none _
  hbody c := (body_obligation1 c (U1 m c)).loose
  hwaits := Pipeline.hwaits_of_owed_zero _ _ _ _ LL lvl 1 fun _ _ => rfl
  pre c := iprop(StableHlo.held (c : Thread nD τ) (Pipeline.ucRefs τ sig) (V3 m (outsK m) c) ∗ EE 1 c)
  post c := iprop(StableHlo.held (c : Thread nD τ) (Pipeline.ucRefs τ sig) (V4 m (outsK m) c) ∗ EE 2 c)
  X c := iprop(∃ r, prngReg c r)
  Y c := iprop(∃ r, prngReg c r)
  Z c := iprop(Pipeline.unscopedRest (Ix := Unit) (Name := ℕ) (U := UR sig nD τ) (Lvl := ℕ) spec1 c (fun b => V3 m (outsK m) c b))
  hentry c := by
    rw [Pipeline.ownSems0_none, ← Pipeline.unscopedBufs_held (Ix := Unit) (Name := ℕ) (U := UR sig nD τ) (Lvl := ℕ) c (V3 m (outsK m) c)]
    have hsplit := Pipeline.arrays_of_unscopedBufs (p := 1) (pcfgs (F := F)) adm (pdats m) launch1.win launch1.arr_whole c
      ((pdats m 1 c).share_full fun _ => rfl) (fun b => V3 m (outsK m) c b) fun w => A1_eq c (U1 m c) w
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR]; · iexact HR
    iexact Hrest
  hin c := by
    refine BIBase.Entails.trans ?_ (hin1 c (U1 m c))
    unfold Pipeline.ΦA
    iintro ⟨Hp, -, Hr⟩
    isplitl [Hr]; · iexact Hr
    iexact Hp
  hout c := by
    rw [Pipeline.ownSems0_none]
    refine BIBase.Entails.trans (hout1 c (U1 m c)) ?_
    unfold Pipeline.ΦA
    iintro ⟨Hr, Hp⟩
    isplitl [Hp]; · iexact Hp
    isplitr; · iempintro
    iexact Hr
  hexit c := by
    rw [← Pipeline.unscopedBufs_held (Ix := Unit) (Name := ℕ) (U := UR sig nD τ) (Lvl := ℕ) c (V4 m (outsK m) c)]
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => V3 m (outsK m) c b) (fun b => V4 m (outsK m) c b) ((pdats m 1 c).arrAt · cfg1.N)
      (fun w => by
        match w with
        | ⟨0, _⟩ => exact ((dat1 c (U1 m c)).arrAt_in 0 rfl _).trans ((A1_eq c (U1 m c) 0).trans (V4_of m (outsK m) c main_v2_0 (by decide)).symm)
        | ⟨1, _⟩ => exact ((dat1 c (U1 m c)).arrAt_in 1 rfl _).trans ((A1_eq c (U1 m c) 1).trans (V4_of m (outsK m) c main_v2_1 (by decide)).symm)
        | ⟨2, _⟩ => exact ((dat1 c (U1 m c)).arrAt_in 2 rfl _).trans ((A1_eq c (U1 m c) 2).trans (V4_of m (outsK m) c main_v2_2 (by decide)).symm)
        | ⟨3, _⟩ => exact ((dat1 c (U1 m c)).arrAt_in 3 rfl _).trans ((A1_eq c (U1 m c) 3).trans (V4_of m (outsK m) c main_arg2 (by decide)).symm)
        | ⟨4, _⟩ => exact ((dat1 c (U1 m c)).arrAt_in 4 rfl _).trans ((A1_eq c (U1 m c) 4).trans (V4_of m (outsK m) c main_v3 (by decide)).symm)
        | ⟨5, _⟩ => exact ((dat1 c (U1 m c)).arrAt_in 5 rfl _).trans ((A1_eq c (U1 m c) 5).trans (V4_of m (outsK m) c main_arg5 (by decide)).symm)
        | ⟨6, _⟩ => exact ((dat1 c (U1 m c)).arrAt_in 6 rfl _).trans ((A1_eq c (U1 m c) 6).trans (V4_of m (outsK m) c main_v1 (by decide)).symm)
        | ⟨7, _⟩ => exact (V4_v4_0 m c).symm
        | ⟨8, _⟩ => exact (V4_v4_1 m c).symm
        | ⟨9, _⟩ => exact (V4_v4_2 m c).symm
        )
      (fun b hb => V4_of m (outsK m) c b fun h => hb (by
        simp only [List.mem_cons, List.not_mem_nil, _root_.or_false] at h
        rcases h with h | h | h
        · exact h ▸ Finset.mem_image.mpr ⟨7, Finset.mem_univ _, rfl⟩
        · exact h ▸ Finset.mem_image.mpr ⟨8, Finset.mem_univ _, rfl⟩
        · exact h ▸ Finset.mem_image.mpr ⟨9, Finset.mem_univ _, rfl⟩))
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- the run lemma's implicit arguments are found by unifying its conclusion with this one
set_option backward.isDefEq.respectTransparency.types false in
set_option maxHeartbeats 4000000 in
/-- The run: every final state holds every unscoped buffer at the last valuation, and every semaphore counter at zero. -/
theorem run_all : θ_run defs (onTc (τ := τ) (main (F := F))) ⟨m, fun _ => 0, ρ⟩ (fun r => (∀ c : Dev nD,
      ∀ b ∈ Pipeline.ucRefs τ sig, r.2.mem (c, b) = V5 m (outsK m) c b) ∧ r.2.sem = fun _ => 0) := by
  refine Pipeline.θ_run_regions_kit_dev_sems (pcfgs (F := F)) adm (pdats m) () cellOf_inj emb₁ defs₀ Variants.none LL lvl m ρ main
    (segs m (outsK m) Variants.none LL lvl EE () (pdats m) (reg0 m) (reg1 m))
    (fun c Q => by
      rewrite [main_chain c, Seg.run_eq_chain,
        show (segs m (outsK m) Variants.none LL lvl EE () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj)) (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EE 0 c))
    (Tₙ := fun c => StableHlo.held (c : Thread nD τ) (Pipeline.ucRefs τ sig) (V5 m (outsK m) c))
    (hch := fun c => ⟨.rfl, .rfl, .rfl, .rfl, .rfl, sep_mono .rfl (by iintro ⟨-, H⟩; iexact H)⟩)
    (hinit := ?_) (QY := fun c s => ∀ b ∈ Pipeline.ucRefs τ sig, s.mem (c, b) = V5 m (outsK m) c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ emp))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    ihave HE := (show (bigSep Finset.univ fun c : Dev nD => iprop(unscopedSems0 c ∗ owes (c.tc : Thread nD τ) (0 : CellTallies nD τ sig Unit) ∅ ∗ Pipeline.launchCred (fun _ => 0) c ∗ prngReg c (ρ c) ∗ emp))
        ⊢ (bigSep Finset.univ fun c : Dev nD => EE (F := F) 0 c : sProp 𝕄) from bigSep_mono fun c _ =>
      (show iprop(unscopedSems0 c ∗ owes (c.tc : Thread nD τ) (0 : CellTallies nD τ sig Unit) ∅ ∗ Pipeline.launchCred (fun _ => 0) c ∗ prngReg c (ρ c) ∗ emp)
        ⊢ (EE (F := F) 0 c : sProp 𝕄) from by
      iintro ⟨-, HO, -, Hp, -⟩
      isplitl [Hp]; · iexists _; iexact Hp
      iexists _; iexact HO)) $$ Hr
    imodintro
    iapply (show iprop((bigSep Finset.univ fun c : Dev nD => StableHlo.held (c : Thread nD τ) (Pipeline.ucRefs τ sig) (V0 m c))
        ∗ bigSep Finset.univ fun c : Dev nD => EE (F := F) 0 c)
        ⊢ (bigSep Finset.univ fun c : Dev nD => iprop(StableHlo.held (c : Thread nD τ) (Pipeline.ucRefs τ sig) (V0 m c) ∗ EE (F := F) 0 c) : sProp 𝕄) from
      Entails.of_eq (bigSep_sep' _ _ _).symm)
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m (outsK m) c) s') $$ [Hh HSI]
    · isplitl [Hh] <;> iassumption
    icases Hr with ⟨%h, HSI⟩
    imodintro
    isplitr
    · ipureintro
      exact fun b hb => h b hb
    · iexact HSI

/-- A buffer of the TensorCore that is not scoped is one of those read at the end. -/
theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- The frame: each argument ends as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c (Proc.devRef .tc main_arg0) (mem_uc main_arg0 (by decide))).trans (V5_main_arg0 m (outsK m) c),
    (h.1 c (Proc.devRef .tc main_arg1) (mem_uc main_arg1 (by decide))).trans (V5_main_arg1 m (outsK m) c),
    (h.1 c (Proc.devRef .tc main_arg2) (mem_uc main_arg2 (by decide))).trans (V5_main_arg2 m (outsK m) c),
    (h.1 c (Proc.devRef .tc main_arg3) (mem_uc main_arg3 (by decide))).trans (V5_main_arg3 m (outsK m) c),
    (h.1 c (Proc.devRef .tc main_arg4) (mem_uc main_arg4 (by decide))).trans (V5_main_arg4 m (outsK m) c),
    (h.1 c (Proc.devRef .tc main_arg5) (mem_uc main_arg5 (by decide))).trans (V5_main_arg5 m (outsK m) c)⟩, h.2⟩) (run_all m ρ)

end Cert.Kernel.Hand

end
-- ==== Proof.KI.ProjBase.lean ====
module

public import proofs.«01_k».proof.Proof.Gen.KernelIdeal.Loops
public import proofs.«01_k».proof.Proof.Gen.KernelIdeal.Launch
public import Idealize.ShloMosaic.Lib.Pipeline.Kit
public import Idealize.ShloMosaic.Lib.VecWindow
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The second call's body, at one grid point, as plain functions of what its operands hold. -/

/-- The tile of `h` the body computes: codes `x0`, their scales `x1`, the adapter product `x2`, the weight columns `x3`
    and their scales `x4`, the adapter columns `x5`, the residual tile `x6`. -/
def hTile (x0 : Vec F S1024x16384 .fp8e4m3) (x1 : Vec F S1024x1 .f32) (x2 : Vec F S1024x64 .bf16) (x3 : Vec F S16384x256 .fp8e4m3) (x4 : Vec F S1x256 .f32) (x5 : Vec F S64x256 .bf16) (x6 : Vec F S1024x256 .bf16) : FVec F S1024x256 .bf16 := k1_pay36 x0 x3 x1 x4 x2 x5 x6

/-- The same tile as it goes into the body's table of all tiles. -/
def hSlot (x0 : Vec F S1024x16384 .fp8e4m3) (x1 : Vec F S1024x1 .f32) (x2 : Vec F S1024x64 .bf16) (x3 : Vec F S16384x256 .fp8e4m3) (x4 : Vec F S1x256 .f32) (x5 : Vec F S64x256 .bf16) (x6 : Vec F S1024x256 .bf16) : FVec F S1x1024x256 .bf16 := k1_pay37 x0 x3 x1 x4 x2 x5 x6

/-- The tile's row maxima of absolute values. -/
def hMax (x0 : Vec F S1024x16384 .fp8e4m3) (x1 : Vec F S1024x1 .f32) (x2 : Vec F S1024x64 .bf16) (x3 : Vec F S16384x256 .fp8e4m3) (x4 : Vec F S1x256 .f32) (x5 : Vec F S64x256 .bf16) (x6 : Vec F S1024x256 .bf16) : FVec F S1024x1 .f32 := k1_pay38 x0 x3 x1 x4 x2 x5 x6

/-- The scale of the final quantisation, from the row maxima over all columns. -/
def fScale (v : Vec F S1024x1 .f32) : FVec F S1024x1 .f32 := k1_pay34 (k1_pay29 v) (k1_pay30 v) (k1_pay31 v) (k1_pay32 v)

/-- The inverse of that scale, as the body stores it. -/
def fInv (v : Vec F S1024x1 .f32) : FVec F S1024x1 .f32 := k1_pay35 (k1_pay29 v) (k1_pay30 v) (k1_pay31 v) (k1_pay32 v)

/-- The table of tiles with the slot of grid point `i` overwritten. -/
def slotPut (i : grid1.Coords) (d : Vec F S21x1024x256 .bf16) (w : FVec F S1x1024x256 .bf16) : Vec F S21x1024x256 .bf16 :=
  VecWindow.put (s := S21x1024x256) d ![(i 0).val, 0, 0] S1x1024x256.size w

/-- The first branch's condition: the first grid point. -/
abbrev cond1_0 (i : grid1.Coords) : Prop := (Scalar.cmpi .ne (Scalar.extui (Scalar.cmpi .eq (BitVec.ofNat 32 (i 0).val) 0#32)) 0#32) = 1#1
/-- The second branch's condition: a grid point after the first. -/
abbrev cond1_1 (i : grid1.Coords) : Prop := (Scalar.cmpi .ne (Scalar.extui (Scalar.cmpi .sgt (BitVec.ofNat 32 (i 0).val) 0#32)) 0#32) = 1#1
/-- The third branch's condition: the last grid point. -/
abbrev cond1_2 (i : grid1.Coords) : Prop := k1_cond3 i = 1#1

theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ 1 ≤ t.val :=
  (by decide +kernel : ∀ t : Fin grid1.N, cond1_1 (grid1.coords t) ↔ 1 ≤ t.val)
theorem hcond1_2 : ∀ t : Fin cfg1.N, cond1_2 (grid1.coords t) ↔ t.val = 20 :=
  (by decide +kernel : ∀ t : Fin grid1.N, cond1_2 (grid1.coords t) ↔ t.val = 20)

end Cert.KernelIdeal.Hand

end
-- ==== Proof.KI.ProjRunA.lean ====
module

public import proofs.«01_k».proof.Proof.KI.ProjBase

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of case A (branches taken, skipped, skipped): from the operands' contents, what it leaves everywhere. -/
theorem runA (c : Dev nD) (i : grid1.Coords) (arg1 : Memref sig .tc .vmem S1024x16384 .fp8e4m3) (harg1 : arg1.IsWhole) (arg2 : Memref sig .tc .vmem S1024x1 .f32) (harg2 : arg2.IsWhole) (arg3 : Memref sig .tc .vmem S1024x64 .bf16) (harg3 : arg3.IsWhole) (arg4 : Memref sig .tc .vmem S16384x256 .fp8e4m3) (harg4 : arg4.IsWhole) (arg5 : Memref sig .tc .vmem S1x256 .f32) (harg5 : arg5.IsWhole) (arg6 : Memref sig .tc .vmem S64x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x5376 .fp8e4m3) (harg9 : arg9.IsWhole) (arg10 : Memref sig .tc .vmem S1024x1 .f32) (harg10 : arg10.IsWhole) (arg11 : Memref sig .tc .vmem S21x1024x256 .bf16) (harg11 : arg11.IsWhole) (arg12 : Memref sig .tc .vmem S1024x1 .f32) (harg12 : arg12.IsWhole) (hc0 : cond1_0 i) (hc1 : ¬cond1_1 i) (hc2 : ¬cond1_2 i)
    (x0 : Vec F S1024x16384 .fp8e4m3) (x1 : Vec F S1024x1 .f32) (x2 : Vec F S1024x64 .bf16) (x3 : Vec F S16384x256 .fp8e4m3) (x4 : Vec F S1x256 .f32) (x5 : Vec F S64x256 .bf16) (x6 : Vec F S1024x256 .bf16) (d : Vec F S21x1024x256 .bf16) (y8 : Vec F S1024x5376 .fp8e4m3) (y9 : Vec F S1024x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ owns (c : Thread nD τ) arg10 fullShare y9 ∗ owns (c : Thread nD τ) arg11 fullShare d ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hTile x0 x1 x2 x3 x4 x5 x6) ∗ owns (c : Thread nD τ) arg9 fullShare y8 ∗ owns (c : Thread nD τ) arg10 fullShare y9 ∗ owns (c : Thread nD τ) arg11 fullShare (slotPut i d (hSlot x0 x1 x2 x3 x4 x5 x6)) ∗ owns (c : Thread nD τ) arg12 fullShare (k1_pay1 (hMax x0 x1 x2 x3 x4 x5 x6))) -∗ K ⟨⟩))
          ⊢ wp frame (wpE (defs₀ (F := F)) Variants.none c none) E (cc1_project i arg1 harg1 arg2 harg2 arg3 harg3 arg4 harg4 arg5 harg5 arg6 harg6 arg7 harg7 arg8 harg8 arg9 harg9 arg10 harg10 arg11 harg11 arg12 harg12) K := by
    simp only [cc1_project_eq_skeleton]; unfold cc1_project_skel
    simp only [k1_part10_eq_skeleton, k1_part9_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0
    have r0 := (View.readAt_full arg1.view (harg1.unread x0) inb_S1024x16384_S1024x16384_0_0).trans hf0
    have r1 := (View.readAt_full arg2.view (harg2.unread x1) inb_S1024x1_S1024x1_0_0).trans hf1
    have r2 := (View.readAt_full arg3.view (harg3.unread x2) inb_S1024x64_S1024x64_0_0).trans hf2
    have r3 := (View.readAt_full arg4.view (harg4.unread x3) inb_S16384x256_S16384x256_0_0).trans hf3
    have r4 := (View.readAt_full arg5.view (harg5.unread x4) inb_S1x256_S1x256_0_0).trans hf4
    have r5 := (View.readAt_full arg6.view (harg6.unread x5) inb_S64x256_S64x256_0_0).trans hf5
    have r6 := (View.readAt_full arg7.view (harg7.unread x6) inb_S1024x256_S1024x256_0_0).trans hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; refine (View.read_writes_full _ _ _ _ _).trans ?_; unfold hTile; rfl
    isplitl [H8]
    · iexists _; isplitr; swap; · iexact H8
      ipureintro; exact hf8
    isplitl [H9]
    · iexists _; isplitr; swap; · iexact H9
      ipureintro; exact hf9
    isplitl [HS0]
    · iexists _; isplitr; swap; · iexact HS0
      ipureintro; refine (View.read_writes_cons_put _ _ _ _ _ (k1_off1_eq i)).trans ?_; rw [View.writes_nil, hfs0]; unfold slotPut hSlot; rfl
    iexists _; isplitr; swap; · iexact HS1
    ipureintro; refine (View.read_writes_full _ _ _ _ _).trans ?_; rfl

end Cert.KernelIdeal.Hand

end
-- ==== Proof.KI.ProjRunB.lean ====
module

public import proofs.«01_k».proof.Proof.KI.ProjBase

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of case B (branches skipped, taken, skipped): from the operands' contents, what it leaves everywhere. -/
theorem runB (c : Dev nD) (i : grid1.Coords) (arg1 : Memref sig .tc .vmem S1024x16384 .fp8e4m3) (harg1 : arg1.IsWhole) (arg2 : Memref sig .tc .vmem S1024x1 .f32) (harg2 : arg2.IsWhole) (arg3 : Memref sig .tc .vmem S1024x64 .bf16) (harg3 : arg3.IsWhole) (arg4 : Memref sig .tc .vmem S16384x256 .fp8e4m3) (harg4 : arg4.IsWhole) (arg5 : Memref sig .tc .vmem S1x256 .f32) (harg5 : arg5.IsWhole) (arg6 : Memref sig .tc .vmem S64x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x5376 .fp8e4m3) (harg9 : arg9.IsWhole) (arg10 : Memref sig .tc .vmem S1024x1 .f32) (harg10 : arg10.IsWhole) (arg11 : Memref sig .tc .vmem S21x1024x256 .bf16) (harg11 : arg11.IsWhole) (arg12 : Memref sig .tc .vmem S1024x1 .f32) (harg12 : arg12.IsWhole) (hc0 : ¬cond1_0 i) (hc1 : cond1_1 i) (hc2 : ¬cond1_2 i)
    (x0 : Vec F S1024x16384 .fp8e4m3) (x1 : Vec F S1024x1 .f32) (x2 : Vec F S1024x64 .bf16) (x3 : Vec F S16384x256 .fp8e4m3) (x4 : Vec F S1x256 .f32) (x5 : Vec F S64x256 .bf16) (x6 : Vec F S1024x256 .bf16) (d : Vec F S21x1024x256 .bf16) (s : Vec F S1024x1 .f32) (y8 : Vec F S1024x5376 .fp8e4m3) (y9 : Vec F S1024x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ owns (c : Thread nD τ) arg10 fullShare y9 ∗ owns (c : Thread nD τ) arg11 fullShare d ∗ owns (c : Thread nD τ) arg12 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hTile x0 x1 x2 x3 x4 x5 x6) ∗ owns (c : Thread nD τ) arg9 fullShare y8 ∗ owns (c : Thread nD τ) arg10 fullShare y9 ∗ owns (c : Thread nD τ) arg11 fullShare (slotPut i d (hSlot x0 x1 x2 x3 x4 x5 x6)) ∗ owns (c : Thread nD τ) arg12 fullShare (k1_pay2 (hMax x0 x1 x2 x3 x4 x5 x6) s)) -∗ K ⟨⟩))
          ⊢ wp frame (wpE (defs₀ (F := F)) Variants.none c none) E (cc1_project i arg1 harg1 arg2 harg2 arg3 harg3 arg4 harg4 arg5 harg5 arg6 harg6 arg7 harg7 arg8 harg8 arg9 harg9 arg10 harg10 arg11 harg11 arg12 harg12) K := by
    simp only [cc1_project_eq_skeleton]; unfold cc1_project_skel
    simp only [k1_part10_eq_skeleton, k1_part9_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0; obtain rfl := harg12.eq_unread hfs1
    have r0 := (View.readAt_full arg1.view (harg1.unread x0) inb_S1024x16384_S1024x16384_0_0).trans hf0
    have r1 := (View.readAt_full arg2.view (harg2.unread x1) inb_S1024x1_S1024x1_0_0).trans hf1
    have r2 := (View.readAt_full arg3.view (harg3.unread x2) inb_S1024x64_S1024x64_0_0).trans hf2
    have r3 := (View.readAt_full arg4.view (harg4.unread x3) inb_S16384x256_S16384x256_0_0).trans hf3
    have r4 := (View.readAt_full arg5.view (harg5.unread x4) inb_S1x256_S1x256_0_0).trans hf4
    have r5 := (View.readAt_full arg6.view (harg6.unread x5) inb_S64x256_S64x256_0_0).trans hf5
    have r6 := (View.readAt_full arg7.view (harg7.unread x6) inb_S1024x256_S1024x256_0_0).trans hf6
    have r12 := (View.readAt_full arg12.view (harg12.unread s) inb_S1024x1_S1024x1_0_0).trans hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; refine (View.read_writes_full _ _ _ _ _).trans ?_; unfold hTile; rfl
    isplitl [H8]
    · iexists _; isplitr; swap; · iexact H8
      ipureintro; exact hf8
    isplitl [H9]
    · iexists _; isplitr; swap; · iexact H9
      ipureintro; exact hf9
    isplitl [HS0]
    · iexists _; isplitr; swap; · iexact HS0
      ipureintro; refine (View.read_writes_cons_put _ _ _ _ _ (k1_off1_eq i)).trans ?_; rw [View.writes_nil, hfs0]; unfold slotPut hSlot; rfl
    iexists _; isplitr; swap; · iexact HS1
    ipureintro; refine (View.read_writes_full _ _ _ _ _).trans ?_; rfl

end Cert.KernelIdeal.Hand

end
-- ==== Proof.KI.ProjLoop.lean ====
module

public import proofs.«01_k».proof.Proof.KI.ProjBase
public import Idealize.ShloMosaic.Lib.Pipeline.ReadBack

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Tile `q` of the table, rows `32k … 32k+31`. -/
def dBlk (d : Vec F S21x1024x256 .bf16) (q k : ℕ) (hq : q < 21) (hk : k < 32) : Vec F S1x32x256 .bf16 :=
  VecWindow.window (s := S21x1024x256) d ![q, 32 * k, 0] S1x32x256.size (by
    intro a; match a with
    | ⟨0, _⟩ => show q + 1 ≤ 21; omega
    | ⟨1, _⟩ => show 32 * k + 32 ≤ 1024; omega
    | ⟨2, _⟩ => show 0 + 256 ≤ 256; omega)

/-- Rows `32k … 32k+31` of the inverse scales. -/
def vBlk (v : Vec F S1024x1 .f32) (k : ℕ) (hk : k < 32) : Vec F S32x1 .f32 :=
  VecWindow.window (s := S1024x1) v ![32 * k, 0] S32x1.size (by
    intro a; match a with
    | ⟨0, _⟩ => show 32 * k + 32 ≤ 1024; omega
    | ⟨1, _⟩ => show 0 + 1 ≤ 1; omega)

/-- The codes the last loop stores: every block of 32 rows and 256 columns from the table's rows and the rows' inverse scales. -/
def codesOut (d : Vec F S21x1024x256 .bf16) (iv : Vec F S1024x1 .f32) : Vec F S1024x5376 .fp8e4m3 := fun y =>
  k1_pay6 (dBlk d ((y 1).val / 256) ((y 0).val / 32)
      (by have h : (y 1).val < 5376 := (y 1).isLt; omega) (by have h : (y 0).val < 1024 := (y 0).isLt; omega))
    (vBlk iv ((y 0).val / 32) (by have h : (y 0).val < 1024 := (y 0).isLt; omega))
    (fun a => match a with
      | ⟨0, _⟩ => ⟨(y 0).val % 32, Nat.mod_lt _ (by omega)⟩
      | ⟨1, _⟩ => ⟨(y 1).val % 256, Nat.mod_lt _ (by omega)⟩)

/-- `codesOut` at an index of a named block. -/
theorem codesOut_blk (d : Vec F S21x1024x256 .bf16) (iv : Vec F S1024x1 .f32) (q k : ℕ) (hq : q < 21) (hk : k < 32)
    (y : S1024x5376.Idx) (x : S32x256.Idx) (h0 : (y 0).val = 32 * k + (x 0).val) (h1 : (y 1).val = 256 * q + (x 1).val) :
    codesOut d iv y = k1_pay6 (dBlk d q k hq hk) (vBlk iv k hk) x := by
  have hx0 : (x 0).val < 32 := (x 0).isLt
  have hx1 : (x 1).val < 256 := (x 1).isLt
  have ek : (y 0).val / 32 = k := by omega
  have eq : (y 1).val / 256 = q := by omega
  subst ek; subst eq
  unfold codesOut
  refine congrArg _ (funext fun a => ?_)
  match a with
  | ⟨0, _⟩ => exact Fin.ext (by show (y 0).val % 32 = (x 0).val; omega)
  | ⟨1, _⟩ => exact Fin.ext (by show (y 1).val % 256 = (x 1).val; omega)

/-- One store of the loop is a block of `codesOut`. -/
theorem piece_blk {arg11 : Memref sig .tc .vmem S21x1024x256 .bf16} {arg12 : Memref sig .tc .vmem S1024x1 .f32}
    {X11 : BufTy.Contents (Elt F) arg11.view.ty} {X12 : BufTy.Contents (Elt F) arg12.view.ty}
    {d : Vec F S21x1024x256 .bf16} {iv : Vec F S1024x1 .f32}
    (h11 : arg11.view.read (Elt F) X11 = d) (h12 : arg12.view.read (Elt F) X12 = iv) (q k : ℕ) (hq : q < 21) (hk : k < 32)
    {o2 : Fin S21x1024x256.rank → ℕ} {o3 : Fin S1024x1.rank → ℕ} {o4 : Fin S1024x5376.rank → ℕ}
    (e2 : o2 = ![q, 32 * k, 0]) (e3 : o3 = ![32 * k, 0]) (e4 : o4 = ![32 * k, 256 * q])
    (i2 : ∀ a, o2 a + S1x32x256.size a ≤ S21x1024x256.size a) (i3 : ∀ a, o3 a + S32x1.size a ≤ S1024x1.size a)
    (i4 : ∀ a, o4 a + S32x256.size a ≤ S1024x5376.size a) (x : S32x256.Idx) :
    k1_pay6 (arg11.view.readAt (Elt F) (Rect.unit o2 S1x32x256.size i2).toLoadRect X11)
        (arg12.view.readAt (Elt F) (Rect.unit o3 S32x1.size i3).toLoadRect X12) x
      = codesOut d iv ((Rect.unit o4 S32x256.size i4).emb x) := by
  subst e2 e3 e4
  rw [codesOut_blk d iv q k hq hk _ x (by show 32 * k + 1 * (x 0).val = _; omega) (by show 256 * q + 1 * (x 1).val = _; omega)]
  rw [View.readAt_unit _ _ i2 rfl i2, View.readAt_unit _ _ i3 rfl i3, h11, h12]
  rfl

/-- An index lies in the block of 32 rows and 256 columns its coordinates divide to. -/
theorem row_mem {o : Fin S1024x5376.rank → ℕ} {k n : ℕ} (e : o = ![32 * k, n]) (i4 : ∀ a, o a + S32x256.size a ≤ S1024x5376.size a)
    {y : S1024x5376.Idx} (hy : (y 0).val / 32 = k) (q : ℕ) (h : n = 256 * q ∧ (y 1).val / 256 = q) :
    y ∈ (Rect.unit o S32x256.size i4).set := by
  subst e
  refine Rect.mem_set_unit.mpr fun a => ?_
  match a with
  | ⟨0, _⟩ => show 32 * k ≤ (y 0).val ∧ (y 0).val < 32 * k + 32; omega
  | ⟨1, _⟩ => show n ≤ (y 1).val ∧ (y 1).val < n + 256; omega

set_option maxHeartbeats 4000000 in
/-- One trip's stores are blocks of `codesOut`. -/
theorem trip_blk (c : Dev nD) (i : grid1.Coords) (arg1 : Memref sig .tc .vmem S1024x16384 .fp8e4m3) (harg1 : arg1.IsWhole) (arg2 : Memref sig .tc .vmem S1024x1 .f32) (harg2 : arg2.IsWhole) (arg3 : Memref sig .tc .vmem S1024x64 .bf16) (harg3 : arg3.IsWhole) (arg4 : Memref sig .tc .vmem S16384x256 .fp8e4m3) (harg4 : arg4.IsWhole) (arg5 : Memref sig .tc .vmem S1x256 .f32) (harg5 : arg5.IsWhole) (arg6 : Memref sig .tc .vmem S64x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x5376 .fp8e4m3) (harg9 : arg9.IsWhole) (arg10 : Memref sig .tc .vmem S1024x1 .f32) (harg10 : arg10.IsWhole) (arg11 : Memref sig .tc .vmem S21x1024x256 .bf16) (harg11 : arg11.IsWhole) (arg12 : Memref sig .tc .vmem S1024x1 .f32) (harg12 : arg12.IsWhole) (k1_h3 : k1_cond3 i = 1#1) (c0_i32_44 : BitVec 32) (X11 : BufTy.Contents (Elt F) arg11.view.ty) (X12 : BufTy.Contents (Elt F) arg12.view.ty) (d : Vec F S21x1024x256 .bf16) (iv : Vec F S1024x1 .f32)
    (h11 : arg11.view.read (Elt F) X11 = d) (h12 : arg12.view.read (Elt F) X12 = iv) (k : Fin k1_t1_loop.trips) :
    View.PiecesOf (codesOut d iv) (tripL_k1_t1 (F := F) Variants.none c none i arg1 harg1 arg2 harg2 arg3 harg3 arg4 harg4 arg5 harg5 arg6 harg6 arg7 harg7 arg8 harg8 arg9 harg9 arg10 harg10 arg11 harg11 arg12 harg12 k1_h3 c0_i32_44 X11 X12 k) := by
  have hk : k.val < 32 := Nat.lt_of_lt_of_le k.isLt k1_t1_abs.2.1
  unfold tripL_k1_t1 trip_k1_t1
  exact ⟨
    fun x => piece_blk h11 h12 20 k.val (by omega) hk (k1_off43_eq k) (k1_off3_eq k) (k1_off44_eq k) (k1_off43_inb i k k1_h3) (k1_off3_inb i k k1_h3) (k1_off44_inb i k k1_h3) x,
    fun x => piece_blk h11 h12 19 k.val (by omega) hk (k1_off41_eq k) (k1_off3_eq k) (k1_off42_eq k) (k1_off41_inb i k k1_h3) (k1_off3_inb i k k1_h3) (k1_off42_inb i k k1_h3) x,
    fun x => piece_blk h11 h12 18 k.val (by omega) hk (k1_off39_eq k) (k1_off3_eq k) (k1_off40_eq k) (k1_off39_inb i k k1_h3) (k1_off3_inb i k k1_h3) (k1_off40_inb i k k1_h3) x,
    fun x => piece_blk h11 h12 17 k.val (by omega) hk (k1_off37_eq k) (k1_off3_eq k) (k1_off38_eq k) (k1_off37_inb i k k1_h3) (k1_off3_inb i k k1_h3) (k1_off38_inb i k k1_h3) x,
    fun x => piece_blk h11 h12 16 k.val (by omega) hk (k1_off35_eq k) (k1_off3_eq k) (k1_off36_eq k) (k1_off35_inb i k k1_h3) (k1_off3_inb i k k1_h3) (k1_off36_inb i k k1_h3) x,
    fun x => piece_blk h11 h12 15 k.val (by omega) hk (k1_off33_eq k) (k1_off3_eq k) (k1_off34_eq k) (k1_off33_inb i k k1_h3) (k1_off3_inb i k k1_h3) (k1_off34_inb i k k1_h3) x,
    fun x => piece_blk h11 h12 14 k.val (by omega) hk (k1_off31_eq k) (k1_off3_eq k) (k1_off32_eq k) (k1_off31_inb i k k1_h3) (k1_off3_inb i k k1_h3) (k1_off32_inb i k k1_h3) x,
    fun x => piece_blk h11 h12 13 k.val (by omega) hk (k1_off29_eq k) (k1_off3_eq k) (k1_off30_eq k) (k1_off29_inb i k k1_h3) (k1_off3_inb i k k1_h3) (k1_off30_inb i k k1_h3) x,
    fun x => piece_blk h11 h12 12 k.val (by omega) hk (k1_off27_eq k) (k1_off3_eq k) (k1_off28_eq k) (k1_off27_inb i k k1_h3) (k1_off3_inb i k k1_h3) (k1_off28_inb i k k1_h3) x,
    fun x => piece_blk h11 h12 11 k.val (by omega) hk (k1_off25_eq k) (k1_off3_eq k) (k1_off26_eq k) (k1_off25_inb i k k1_h3) (k1_off3_inb i k k1_h3) (k1_off26_inb i k k1_h3) x,
    fun x => piece_blk h11 h12 10 k.val (by omega) hk (k1_off23_eq k) (k1_off3_eq k) (k1_off24_eq k) (k1_off23_inb i k k1_h3) (k1_off3_inb i k k1_h3) (k1_off24_inb i k k1_h3) x,
    fun x => piece_blk h11 h12 9 k.val (by omega) hk (k1_off21_eq k) (k1_off3_eq k) (k1_off22_eq k) (k1_off21_inb i k k1_h3) (k1_off3_inb i k k1_h3) (k1_off22_inb i k k1_h3) x,
    fun x => piece_blk h11 h12 8 k.val (by omega) hk (k1_off19_eq k) (k1_off3_eq k) (k1_off20_eq k) (k1_off19_inb i k k1_h3) (k1_off3_inb i k k1_h3) (k1_off20_inb i k k1_h3) x,
    fun x => piece_blk h11 h12 7 k.val (by omega) hk (k1_off17_eq k) (k1_off3_eq k) (k1_off18_eq k) (k1_off17_inb i k k1_h3) (k1_off3_inb i k k1_h3) (k1_off18_inb i k k1_h3) x,
    fun x => piece_blk h11 h12 6 k.val (by omega) hk (k1_off15_eq k) (k1_off3_eq k) (k1_off16_eq k) (k1_off15_inb i k k1_h3) (k1_off3_inb i k k1_h3) (k1_off16_inb i k k1_h3) x,
    fun x => piece_blk h11 h12 5 k.val (by omega) hk (k1_off13_eq k) (k1_off3_eq k) (k1_off14_eq k) (k1_off13_inb i k k1_h3) (k1_off3_inb i k k1_h3) (k1_off14_inb i k k1_h3) x,
    fun x => piece_blk h11 h12 4 k.val (by omega) hk (k1_off11_eq k) (k1_off3_eq k) (k1_off12_eq k) (k1_off11_inb i k k1_h3) (k1_off3_inb i k k1_h3) (k1_off12_inb i k k1_h3) x,
    fun x => piece_blk h11 h12 3 k.val (by omega) hk (k1_off9_eq k) (k1_off3_eq k) (k1_off10_eq k) (k1_off9_inb i k k1_h3) (k1_off3_inb i k k1_h3) (k1_off10_inb i k k1_h3) x,
    fun x => piece_blk h11 h12 2 k.val (by omega) hk (k1_off7_eq k) (k1_off3_eq k) (k1_off8_eq k) (k1_off7_inb i k k1_h3) (k1_off3_inb i k k1_h3) (k1_off8_inb i k k1_h3) x,
    fun x => piece_blk h11 h12 1 k.val (by omega) hk (k1_off5_eq k) (k1_off3_eq k) (k1_off6_eq k) (k1_off5_inb i k k1_h3) (k1_off3_inb i k k1_h3) (k1_off6_inb i k k1_h3) x,
    fun x => piece_blk h11 h12 0 k.val (by omega) hk (k1_off2_eq k) (k1_off3_eq k) (k1_off4_eq k) (k1_off2_inb i k k1_h3) (k1_off3_inb i k k1_h3) (k1_off4_inb i k k1_h3) x,
    trivial⟩

set_option maxHeartbeats 4000000 in
/-- One trip's stores cover its 32 rows. -/
theorem trip_cover (c : Dev nD) (i : grid1.Coords) (arg1 : Memref sig .tc .vmem S1024x16384 .fp8e4m3) (harg1 : arg1.IsWhole) (arg2 : Memref sig .tc .vmem S1024x1 .f32) (harg2 : arg2.IsWhole) (arg3 : Memref sig .tc .vmem S1024x64 .bf16) (harg3 : arg3.IsWhole) (arg4 : Memref sig .tc .vmem S16384x256 .fp8e4m3) (harg4 : arg4.IsWhole) (arg5 : Memref sig .tc .vmem S1x256 .f32) (harg5 : arg5.IsWhole) (arg6 : Memref sig .tc .vmem S64x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x5376 .fp8e4m3) (harg9 : arg9.IsWhole) (arg10 : Memref sig .tc .vmem S1024x1 .f32) (harg10 : arg10.IsWhole) (arg11 : Memref sig .tc .vmem S21x1024x256 .bf16) (harg11 : arg11.IsWhole) (arg12 : Memref sig .tc .vmem S1024x1 .f32) (harg12 : arg12.IsWhole) (k1_h3 : k1_cond3 i = 1#1) (c0_i32_44 : BitVec 32) (X11 : BufTy.Contents (Elt F) arg11.view.ty) (X12 : BufTy.Contents (Elt F) arg12.view.ty) (k : Fin k1_t1_loop.trips)
    (y : S1024x5376.Idx) (hy : (y 0).val / 32 = k.val) : ∃ p ∈ tripL_k1_t1 (F := F) Variants.none c none i arg1 harg1 arg2 harg2 arg3 harg3 arg4 harg4 arg5 harg5 arg6 harg6 arg7 harg7 arg8 harg8 arg9 harg9 arg10 harg10 arg11 harg11 arg12 harg12 k1_h3 c0_i32_44 X11 X12 k, y ∈ p.1.set := by
  unfold tripL_k1_t1 trip_k1_t1
  dsimp only
  have h1 : (y 1).val < 5376 := (y 1).isLt
  have hq : (y 1).val / 256 < 21 := by omega
  obtain ⟨q, hqe⟩ : ∃ q, (y 1).val / 256 = q := ⟨_, rfl⟩
  rw [hqe] at hq
  have hs : q = 0 ∨ q = 1 ∨ q = 2 ∨ q = 3 ∨ q = 4 ∨ q = 5 ∨ q = 6 ∨ q = 7 ∨ q = 8 ∨ q = 9 ∨ q = 10 ∨ q = 11 ∨ q = 12 ∨ q = 13 ∨ q = 14 ∨ q = 15 ∨ q = 16 ∨ q = 17 ∨ q = 18 ∨ q = 19 ∨ q = 20 := by omega
  rcases hs with rfl | rfl | rfl | rfl | rfl | rfl | rfl | rfl | rfl | rfl | rfl | rfl | rfl | rfl | rfl | rfl | rfl | rfl | rfl | rfl | rfl
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))), ?_⟩
    exact row_mem (k1_off4_eq k) (k1_off4_inb i k k1_h3) hy 0 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))), ?_⟩
    exact row_mem (k1_off6_eq k) (k1_off6_inb i k k1_h3) hy 1 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))), ?_⟩
    exact row_mem (k1_off8_eq k) (k1_off8_inb i k k1_h3) hy 2 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))), ?_⟩
    exact row_mem (k1_off10_eq k) (k1_off10_inb i k k1_h3) hy 3 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), ?_⟩
    exact row_mem (k1_off12_eq k) (k1_off12_inb i k k1_h3) hy 4 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), ?_⟩
    exact row_mem (k1_off14_eq k) (k1_off14_inb i k k1_h3) hy 5 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), ?_⟩
    exact row_mem (k1_off16_eq k) (k1_off16_inb i k k1_h3) hy 6 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), ?_⟩
    exact row_mem (k1_off18_eq k) (k1_off18_inb i k k1_h3) hy 7 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩
    exact row_mem (k1_off20_eq k) (k1_off20_inb i k k1_h3) hy 8 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩
    exact row_mem (k1_off22_eq k) (k1_off22_inb i k k1_h3) hy 9 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩
    exact row_mem (k1_off24_eq k) (k1_off24_inb i k k1_h3) hy 10 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
    exact row_mem (k1_off26_eq k) (k1_off26_inb i k k1_h3) hy 11 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
    exact row_mem (k1_off28_eq k) (k1_off28_inb i k k1_h3) hy 12 ⟨rfl, hqe⟩
  · refine ⟨_, List.mem_cons_of_mem _ (List.mem_cons_of_mem _ (List.mem_cons_of_mem _ (List.mem_cons_of_mem _ (List.mem_cons_of_mem _ (List.mem_cons_of_mem _ (List.mem_cons_of_mem _ List.mem_cons_self)))))), ?_⟩
    exact row_mem (k1_off30_eq k) (k1_off30_inb i k k1_h3) hy 13 ⟨rfl, hqe⟩
  · refine ⟨_, List.mem_cons_of_mem _ (List.mem_cons_of_mem _ (List.mem_cons_of_mem _ (List.mem_cons_of_mem _ (List.mem_cons_of_mem _ (List.mem_cons_of_mem _ List.mem_cons_self))))), ?_⟩
    exact row_mem (k1_off32_eq k) (k1_off32_inb i k k1_h3) hy 14 ⟨rfl, hqe⟩
  · refine ⟨_, List.mem_cons_of_mem _ (List.mem_cons_of_mem _ (List.mem_cons_of_mem _ (List.mem_cons_of_mem _ (List.mem_cons_of_mem _ List.mem_cons_self)))), ?_⟩
    exact row_mem (k1_off34_eq k) (k1_off34_inb i k k1_h3) hy 15 ⟨rfl, hqe⟩
  · refine ⟨_, List.mem_cons_of_mem _ (List.mem_cons_of_mem _ (List.mem_cons_of_mem _ (List.mem_cons_of_mem _ List.mem_cons_self))), ?_⟩
    exact row_mem (k1_off36_eq k) (k1_off36_inb i k k1_h3) hy 16 ⟨rfl, hqe⟩
  · refine ⟨_, List.mem_cons_of_mem _ (List.mem_cons_of_mem _ (List.mem_cons_of_mem _ List.mem_cons_self)), ?_⟩
    exact row_mem (k1_off38_eq k) (k1_off38_inb i k k1_h3) hy 17 ⟨rfl, hqe⟩
  · refine ⟨_, List.mem_cons_of_mem _ (List.mem_cons_of_mem _ List.mem_cons_self), ?_⟩
    exact row_mem (k1_off40_eq k) (k1_off40_inb i k k1_h3) hy 18 ⟨rfl, hqe⟩
  · refine ⟨_, List.mem_cons_of_mem _ List.mem_cons_self, ?_⟩
    exact row_mem (k1_off42_eq k) (k1_off42_inb i k k1_h3) hy 19 ⟨rfl, hqe⟩
  · refine ⟨_, List.mem_cons_self, ?_⟩
    exact row_mem (k1_off44_eq k) (k1_off44_inb i k k1_h3) hy 20 ⟨rfl, hqe⟩

/-- The pieces of a list followed by those of another. -/
theorem piecesOf_append {G : S1024x5376.Idx → Elt F .fp8e4m3} :
    ∀ {L L' : List (View.Piece (Elt F) S1024x5376 .fp8e4m3)}, View.PiecesOf G L → View.PiecesOf G L' → View.PiecesOf G (L ++ L')
  | [], _, _, h' => h'
  | _ :: _, _, h, h' => ⟨h.1, piecesOf_append h.2 h'⟩

/-- After `n` trips: every store so far is a block of `codesOut`, and the rows below `32n` are covered. -/
theorem trips_blk (c : Dev nD) (i : grid1.Coords) (arg1 : Memref sig .tc .vmem S1024x16384 .fp8e4m3) (harg1 : arg1.IsWhole) (arg2 : Memref sig .tc .vmem S1024x1 .f32) (harg2 : arg2.IsWhole) (arg3 : Memref sig .tc .vmem S1024x64 .bf16) (harg3 : arg3.IsWhole) (arg4 : Memref sig .tc .vmem S16384x256 .fp8e4m3) (harg4 : arg4.IsWhole) (arg5 : Memref sig .tc .vmem S1x256 .f32) (harg5 : arg5.IsWhole) (arg6 : Memref sig .tc .vmem S64x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x5376 .fp8e4m3) (harg9 : arg9.IsWhole) (arg10 : Memref sig .tc .vmem S1024x1 .f32) (harg10 : arg10.IsWhole) (arg11 : Memref sig .tc .vmem S21x1024x256 .bf16) (harg11 : arg11.IsWhole) (arg12 : Memref sig .tc .vmem S1024x1 .f32) (harg12 : arg12.IsWhole) (k1_h3 : k1_cond3 i = 1#1) (c0_i32_44 : BitVec 32) (X11 : BufTy.Contents (Elt F) arg11.view.ty) (X12 : BufTy.Contents (Elt F) arg12.view.ty) (d : Vec F S21x1024x256 .bf16) (iv : Vec F S1024x1 .f32)
    (h11 : arg11.view.read (Elt F) X11 = d) (h12 : arg12.view.read (Elt F) X12 = iv) :
    ∀ n : ℕ, n ≤ k1_t1_loop.trips → View.PiecesOf (codesOut d iv) (pb_k1_t1 (F := F) Variants.none c none i arg1 harg1 arg2 harg2 arg3 harg3 arg4 harg4 arg5 harg5 arg6 harg6 arg7 harg7 arg8 harg8 arg9 harg9 arg10 harg10 arg11 harg11 arg12 harg12 k1_h3 c0_i32_44 X11 X12 n)
      ∧ ∀ y : S1024x5376.Idx, (y 0).val / 32 < n → ∃ p ∈ pb_k1_t1 (F := F) Variants.none c none i arg1 harg1 arg2 harg2 arg3 harg3 arg4 harg4 arg5 harg5 arg6 harg6 arg7 harg7 arg8 harg8 arg9 harg9 arg10 harg10 arg11 harg11 arg12 harg12 k1_h3 c0_i32_44 X11 X12 n, y ∈ p.1.set
  | 0, _ => ⟨by rw [pb_k1_t1.eq_1]; trivial, fun y h => absurd h (Nat.not_lt_zero _)⟩
  | n + 1, hn => by
    have ih := trips_blk c i arg1 harg1 arg2 harg2 arg3 harg3 arg4 harg4 arg5 harg5 arg6 harg6 arg7 harg7 arg8 harg8 arg9 harg9 arg10 harg10 arg11 harg11 arg12 harg12 k1_h3 c0_i32_44 X11 X12 d iv h11 h12 n (by omega)
    have es := pb_k1_t1_succ (F := F) Variants.none c none i arg1 harg1 arg2 harg2 arg3 harg3 arg4 harg4 arg5 harg5 arg6 harg6 arg7 harg7 arg8 harg8 arg9 harg9 arg10 harg10 arg11 harg11 arg12 harg12 k1_h3 c0_i32_44 X11 X12 ⟨n, hn⟩
    rw [show n + 1 = (⟨n, hn⟩ : Fin k1_t1_loop.trips).val + 1 from rfl, es]
    refine ⟨piecesOf_append (trip_blk c i arg1 harg1 arg2 harg2 arg3 harg3 arg4 harg4 arg5 harg5 arg6 harg6 arg7 harg7 arg8 harg8 arg9 harg9 arg10 harg10 arg11 harg11 arg12 harg12 k1_h3 c0_i32_44 X11 X12 d iv h11 h12 _) ih.1, fun y hy => ?_⟩
    by_cases h : (y 0).val / 32 < n
    · obtain ⟨p, hp, hm⟩ := ih.2 y h
      exact ⟨p, List.mem_append_right _ hp, hm⟩
    · obtain ⟨p, hp, hm⟩ := trip_cover (F := F) c i arg1 harg1 arg2 harg2 arg3 harg3 arg4 harg4 arg5 harg5 arg6 harg6 arg7 harg7 arg8 harg8 arg9 harg9 arg10 harg10 arg11 harg11 arg12 harg12 k1_h3 c0_i32_44 X11 X12 ⟨n, hn⟩ y (by
        have : (y 0).val / 32 < n + 1 := hy
        show (y 0).val / 32 = n; omega)
      exact ⟨p, List.mem_append_left _ hp, hm⟩

theorem trips_eq : k1_t1_loop.trips = 32 := by decide +kernel

/-- The codes after the loop, whatever was in the buffer before. -/
theorem loop_read (c : Dev nD) (i : grid1.Coords) (arg1 : Memref sig .tc .vmem S1024x16384 .fp8e4m3) (harg1 : arg1.IsWhole) (arg2 : Memref sig .tc .vmem S1024x1 .f32) (harg2 : arg2.IsWhole) (arg3 : Memref sig .tc .vmem S1024x64 .bf16) (harg3 : arg3.IsWhole) (arg4 : Memref sig .tc .vmem S16384x256 .fp8e4m3) (harg4 : arg4.IsWhole) (arg5 : Memref sig .tc .vmem S1x256 .f32) (harg5 : arg5.IsWhole) (arg6 : Memref sig .tc .vmem S64x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x5376 .fp8e4m3) (harg9 : arg9.IsWhole) (arg10 : Memref sig .tc .vmem S1024x1 .f32) (harg10 : arg10.IsWhole) (arg11 : Memref sig .tc .vmem S21x1024x256 .bf16) (harg11 : arg11.IsWhole) (arg12 : Memref sig .tc .vmem S1024x1 .f32) (harg12 : arg12.IsWhole) (k1_h3 : k1_cond3 i = 1#1) (c0_i32_44 : BitVec 32) (X11 : BufTy.Contents (Elt F) arg11.view.ty) (X12 : BufTy.Contents (Elt F) arg12.view.ty) (d : Vec F S21x1024x256 .bf16) (iv : Vec F S1024x1 .f32)
    (h11 : arg11.view.read (Elt F) X11 = d) (h12 : arg12.view.read (Elt F) X12 = iv) (G9 : BufTy.Contents (Elt F) arg9.view.ty) :
    arg9.view.read (Elt F) (arg9.view.writes (Elt F) G9 (pb_k1_t1 (F := F) Variants.none c none i arg1 harg1 arg2 harg2 arg3 harg3 arg4 harg4 arg5 harg5 arg6 harg6 arg7 harg7 arg8 harg8 arg9 harg9 arg10 harg10 arg11 harg11 arg12 harg12 k1_h3 c0_i32_44 X11 X12 k1_t1_loop.trips)) = codesOut d iv := by
  have h := trips_blk c i arg1 harg1 arg2 harg2 arg3 harg3 arg4 harg4 arg5 harg5 arg6 harg6 arg7 harg7 arg8 harg8 arg9 harg9 arg10 harg10 arg11 harg11 arg12 harg12 k1_h3 c0_i32_44 X11 X12 d iv h11 h12 _ le_rfl
  funext y
  have hc := h.2 y (by have h0 : (y 0).val < 1024 := (y 0).isLt; rw [trips_eq]; omega)
  rw [View.read_writes_apply_eq_canon _ _ y _ hc]
  exact View.canon_apply_of_pieces _ _ h.1.mem y hc

end Cert.KernelIdeal.Hand

end
-- ==== Proof.KI.ProjRunC.lean ====
module

public import proofs.«01_k».proof.Proof.KI.ProjLoop

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of case C (branches skipped, taken, taken): from the operands' contents, what it leaves everywhere. -/
theorem runC (c : Dev nD) (i : grid1.Coords) (arg1 : Memref sig .tc .vmem S1024x16384 .fp8e4m3) (harg1 : arg1.IsWhole) (arg2 : Memref sig .tc .vmem S1024x1 .f32) (harg2 : arg2.IsWhole) (arg3 : Memref sig .tc .vmem S1024x64 .bf16) (harg3 : arg3.IsWhole) (arg4 : Memref sig .tc .vmem S16384x256 .fp8e4m3) (harg4 : arg4.IsWhole) (arg5 : Memref sig .tc .vmem S1x256 .f32) (harg5 : arg5.IsWhole) (arg6 : Memref sig .tc .vmem S64x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x5376 .fp8e4m3) (harg9 : arg9.IsWhole) (arg10 : Memref sig .tc .vmem S1024x1 .f32) (harg10 : arg10.IsWhole) (arg11 : Memref sig .tc .vmem S21x1024x256 .bf16) (harg11 : arg11.IsWhole) (arg12 : Memref sig .tc .vmem S1024x1 .f32) (harg12 : arg12.IsWhole) (hc0 : ¬cond1_0 i) (hc1 : cond1_1 i) (hc2 : cond1_2 i)
    (x0 : Vec F S1024x16384 .fp8e4m3) (x1 : Vec F S1024x1 .f32) (x2 : Vec F S1024x64 .bf16) (x3 : Vec F S16384x256 .fp8e4m3) (x4 : Vec F S1x256 .f32) (x5 : Vec F S64x256 .bf16) (x6 : Vec F S1024x256 .bf16) (d : Vec F S21x1024x256 .bf16) (s : Vec F S1024x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare d ∗ owns (c : Thread nD τ) arg12 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hTile x0 x1 x2 x3 x4 x5 x6) ∗ owns (c : Thread nD τ) arg9 fullShare (codesOut (slotPut i d (hSlot x0 x1 x2 x3 x4 x5 x6)) (fInv (k1_pay2 (hMax x0 x1 x2 x3 x4 x5 x6) s))) ∗ owns (c : Thread nD τ) arg10 fullShare (fScale (k1_pay2 (hMax x0 x1 x2 x3 x4 x5 x6) s)) ∗ owns (c : Thread nD τ) arg11 fullShare (slotPut i d (hSlot x0 x1 x2 x3 x4 x5 x6)) ∗ owns (c : Thread nD τ) arg12 fullShare (fInv (k1_pay2 (hMax x0 x1 x2 x3 x4 x5 x6) s))) -∗ K ⟨⟩))
          ⊢ wp frame (wpE (defs₀ (F := F)) Variants.none c none) E (cc1_project i arg1 harg1 arg2 harg2 arg3 harg3 arg4 harg4 arg5 harg5 arg6 harg6 arg7 harg7 arg8 harg8 arg9 harg9 arg10 harg10 arg11 harg11 arg12 harg12) K := by
    simp only [cc1_project_eq_skeleton]; unfold cc1_project_skel
    simp only [k1_part10_eq_skeleton, k1_part9_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0; obtain rfl := harg12.eq_unread hfs1
    have r0 := (View.readAt_full arg1.view (harg1.unread x0) inb_S1024x16384_S1024x16384_0_0).trans hf0
    have r1 := (View.readAt_full arg2.view (harg2.unread x1) inb_S1024x1_S1024x1_0_0).trans hf1
    have r2 := (View.readAt_full arg3.view (harg3.unread x2) inb_S1024x64_S1024x64_0_0).trans hf2
    have r3 := (View.readAt_full arg4.view (harg4.unread x3) inb_S16384x256_S16384x256_0_0).trans hf3
    have r4 := (View.readAt_full arg5.view (harg5.unread x4) inb_S1x256_S1x256_0_0).trans hf4
    have r5 := (View.readAt_full arg6.view (harg6.unread x5) inb_S64x256_S64x256_0_0).trans hf5
    have r6 := (View.readAt_full arg7.view (harg7.unread x6) inb_S1024x256_S1024x256_0_0).trans hf6
    have r12 := (View.readAt_full arg12.view (harg12.unread s) inb_S1024x1_S1024x1_0_0).trans hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; refine (View.read_writes_full _ _ _ _ _).trans ?_; unfold hTile; rfl
    isplitl [H8]
    · iexists _; isplitr; swap; · iexact H8
      ipureintro; refine loop_read c i arg1 harg1 arg2 harg2 arg3 harg3 arg4 harg4 arg5 harg5 arg6 harg6 arg7 harg7 arg8 harg8 arg9 harg9 arg10 harg10 arg11 harg11 arg12 harg12 _ _ _ _ _ _ ?_ ?_ _
      · refine (View.read_writes_cons_put _ _ _ _ _ (k1_off1_eq i)).trans ?_; rw [View.writes_nil, hfs0]; unfold slotPut hSlot; rfl
      · refine (View.read_writes_full _ _ _ _ _).trans ?_; change fInv _ = fInv _; refine congrArg fInv ?_; exact View.readCov_full _ _ _ _ _
    isplitl [H9]
    · iexists _; isplitr; swap; · iexact H9
      ipureintro; refine (View.read_writes_full _ _ _ _ _).trans ?_; change fScale _ = fScale _; refine congrArg fScale ?_; exact View.readCov_full _ _ _ _ _
    isplitl [HS0]
    · iexists _; isplitr; swap; · iexact HS0
      ipureintro; refine (View.read_writes_cons_put _ _ _ _ _ (k1_off1_eq i)).trans ?_; rw [View.writes_nil, hfs0]; unfold slotPut hSlot; rfl
    iexists _; isplitr; swap; · iexact HS1
    ipureintro; refine (View.read_writes_full _ _ _ _ _).trans ?_; change fInv _ = fInv _; refine congrArg fInv ?_; exact View.readCov_full _ _ _ _ _

end Cert.KernelIdeal.Hand

end
-- ==== Proof.KI.Project.lean ====
module

public import proofs.«01_k».proof.Proof.KI.ProjRunA
public import proofs.«01_k».proof.Proof.KI.ProjRunB
public import proofs.«01_k».proof.Proof.KI.ProjRunC
public import proofs.«01_k».proof.Proof.Gen.KernelIdeal.Points
public import Idealize.ShloMosaic.Lib.Pipeline.FrameBody

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (U : (b : Ref sig .tc) → Buf (Elt F) ((c : Thread nD τ).loc b))

/-- Window `w`'s block at point `t` of the second call, read off its array as the call finds it. -/
def iblk1 (w : Fin cfg1.W) (t : Fin cfg1.N) : ((cfg1.win w).xblock (cfg1.grid.coords t)).Idx → Elt F (cfg1.win w).elt :=
  ((cfg1.win w).blk t).view.read (Elt F) (U (Pipeline.arrRef spec1 w))

theorem before1_0_of {c : Dev nD} (U : (b : Ref sig .tc) → Buf (Elt F) ((c : Thread nD τ).loc b)) (dat : Dat τ (Elt F) Unit ℕ (UR sig nD τ) ℕ cfg1 c) (hA : dat.A 0 = U (Pipeline.arrRef spec1 0))
    (hafter : ∀ t, dat.after 0 t = iblk1 c U 0 t) (t : Fin cfg1.N) (d) : dat.before 0 t d = iblk1 c U 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (U : (b : Ref sig .tc) → Buf (Elt F) ((c : Thread nD τ).loc b)) (dat : Dat τ (Elt F) Unit ℕ (UR sig nD τ) ℕ cfg1 c) (hA : dat.A 1 = U (Pipeline.arrRef spec1 1))
    (hafter : ∀ t, dat.after 1 t = iblk1 c U 1 t) (t : Fin cfg1.N) (d) : dat.before 1 t d = iblk1 c U 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (U : (b : Ref sig .tc) → Buf (Elt F) ((c : Thread nD τ).loc b)) (dat : Dat τ (Elt F) Unit ℕ (UR sig nD τ) ℕ cfg1 c) (hA : dat.A 2 = U (Pipeline.arrRef spec1 2))
    (hafter : ∀ t, dat.after 2 t = iblk1 c U 2 t) (t : Fin cfg1.N) (d) : dat.before 2 t d = iblk1 c U 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (U : (b : Ref sig .tc) → Buf (Elt F) ((c : Thread nD τ).loc b)) (dat : Dat τ (Elt F) Unit ℕ (UR sig nD τ) ℕ cfg1 c) (hA : dat.A 3 = U (Pipeline.arrRef spec1 3))
    (hafter : ∀ t, dat.after 3 t = iblk1 c U 3 t) (t : Fin cfg1.N) (d) : dat.before 3 t d = iblk1 c U 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (U : (b : Ref sig .tc) → Buf (Elt F) ((c : Thread nD τ).loc b)) (dat : Dat τ (Elt F) Unit ℕ (UR sig nD τ) ℕ cfg1 c) (hA : dat.A 4 = U (Pipeline.arrRef spec1 4))
    (hafter : ∀ t, dat.after 4 t = iblk1 c U 4 t) (t : Fin cfg1.N) (d) : dat.before 4 t d = iblk1 c U 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (U : (b : Ref sig .tc) → Buf (Elt F) ((c : Thread nD τ).loc b)) (dat : Dat τ (Elt F) Unit ℕ (UR sig nD τ) ℕ cfg1 c) (hA : dat.A 5 = U (Pipeline.arrRef spec1 5))
    (hafter : ∀ t, dat.after 5 t = iblk1 c U 5 t) (t : Fin cfg1.N) (d) : dat.before 5 t d = iblk1 c U 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (U : (b : Ref sig .tc) → Buf (Elt F) ((c : Thread nD τ).loc b)) (dat : Dat τ (Elt F) Unit ℕ (UR sig nD τ) ℕ cfg1 c) (hA : dat.A 6 = U (Pipeline.arrRef spec1 6))
    (hafter : ∀ t, dat.after 6 t = iblk1 c U 6 t) (t : Fin cfg1.N) (d) : dat.before 6 t d = iblk1 c U 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The tile of the result at point `t`. -/
def tileAt (t : Fin cfg1.N) : FVec F S1024x256 .bf16 := hTile (iblk1 c U 0 t) (iblk1 c U 1 t) (iblk1 c U 2 t) (iblk1 c U 3 t) (iblk1 c U 4 t) (iblk1 c U 5 t) (iblk1 c U 6 t)
/-- The same tile as the body keeps it in the table. -/
def slotAt (t : Fin cfg1.N) : FVec F S1x1024x256 .bf16 := hSlot (iblk1 c U 0 t) (iblk1 c U 1 t) (iblk1 c U 2 t) (iblk1 c U 3 t) (iblk1 c U 4 t) (iblk1 c U 5 t) (iblk1 c U 6 t)
/-- Its row maxima of absolute values. -/
def maxAt (t : Fin cfg1.N) : FVec F S1024x1 .f32 := hMax (iblk1 c U 0 t) (iblk1 c U 1 t) (iblk1 c U 2 t) (iblk1 c U 3 t) (iblk1 c U 4 t) (iblk1 c U 5 t) (iblk1 c U 6 t)

/-- The running row maxima after point `n`. -/
def rmax : (n : ℕ) → n < cfg1.N → FVec F S1024x1 .f32
  | 0, hn => k1_pay1 (maxAt c U ⟨0, hn⟩)
  | n + 1, hn => k1_pay2 (maxAt c U ⟨n + 1, hn⟩) (rmax n (Nat.lt_of_succ_lt hn))

/-- The table of all the tiles. -/
def tab : Vec F S21x1024x256 .bf16 := fun y => slotAt c U ⟨(y 0).val, lt_of_lt_of_eq (y 0).isLt (show 21 = cfg1.N from N_1.symm)⟩
  (fun a => match a with
    | ⟨0, _⟩ => ⟨0, Nat.zero_lt_one⟩
    | ⟨1, _⟩ => y 1
    | ⟨2, _⟩ => y 2)

theorem h20 : 20 < cfg1.N := lt_of_lt_of_eq (by omega) (show 21 = cfg1.N from N_1.symm)

/-- The inverse scales stored at the last point. -/
def finInv : FVec F S1024x1 .f32 := fInv (rmax c U 20 h20)
/-- The scales. -/
def finScale : FVec F S1024x1 .f32 := fScale (rmax c U 20 h20)
/-- The codes. -/
def finCodes : Vec F S1024x5376 .fp8e4m3 := codesOut (tab c U) (finInv c U)

theorem rmax_zero (t : Fin cfg1.N) (hz : t.val = 0) : rmax c U t.val t.isLt = k1_pay1 (maxAt c U t) := by
  obtain ⟨n, hn⟩ := t
  cases n with
  | zero => rfl
  | succ n => exact absurd hz (Nat.succ_ne_zero n)

theorem rmax_pos (t : Fin cfg1.N) (hz : 1 ≤ t.val) :
    rmax c U t.val t.isLt = k1_pay2 (maxAt c U t) (rmax c U (t.val - 1) (by omega)) := by
  obtain ⟨n, hn⟩ := t
  cases n with
  | zero => exact absurd hz (Nat.not_succ_le_zero 0)
  | succ n => rfl

theorem coords1_val : ∀ t : Fin cfg1.N, ((grid1.coords t) 0).val = t.val :=
  (by decide +kernel : ∀ t : Fin grid1.N, ((grid1.coords t) 0).val = t.val)

/-- Inside the window just put, the payload at the local coordinates. -/
theorem put_of_mem {α : Type} {s : Shape} (x : s.Idx → α) (off size : Fin s.rank → ℕ) (w : ((a : Fin s.rank) → Fin (size a)) → α) (y : s.Idx)
    (h : ∀ a, off a ≤ (y a).val ∧ (y a).val < off a + size a) (z : (a : Fin s.rank) → Fin (size a)) (hz : ∀ a, (z a).val = (y a).val - off a) :
    VecWindow.put x off size w y = w z := by
  unfold VecWindow.put
  rw [dif_pos h]
  exact congrArg w (funext fun a => Fin.ext (hz a).symm)

/-- Outside it, what was there. -/
theorem put_of_not_mem {α : Type} {s : Shape} (x : s.Idx → α) (off size : Fin s.rank → ℕ) (w : ((a : Fin s.rank) → Fin (size a)) → α) (y : s.Idx)
    (h : ¬ ∀ a, off a ≤ (y a).val ∧ (y a).val < off a + size a) : VecWindow.put x off size w y = x y := by
  unfold VecWindow.put
  rw [dif_neg h]

/-- The table agrees with the final one in the slots of the points before `n`. -/
def TabUpto (d : Vec F S21x1024x256 .bf16) (n : ℕ) : Prop := ∀ y : S21x1024x256.Idx, (y 0).val < n → d y = tab c U y

theorem tabUpto_put {d : Vec F S21x1024x256 .bf16} {t : Fin cfg1.N} (h : TabUpto c U d t.val) :
    TabUpto c U (slotPut (grid1.coords t) d (slotAt c U t)) (t.val + 1) := by
  intro y hy
  have e := coords1_val t
  have hy1 : (y 1).val < 1024 := (y 1).isLt
  have hy2 : (y 2).val < 256 := (y 2).isLt
  unfold slotPut
  by_cases hyt : (y 0).val = t.val
  · have hin : ∀ a, (![((grid1.coords t) 0).val, 0, 0] : Fin S21x1024x256.rank → ℕ) a ≤ (y a).val
        ∧ (y a).val < (![((grid1.coords t) 0).val, 0, 0] : Fin S21x1024x256.rank → ℕ) a + S1x1024x256.size a := by
      intro a
      match a with
      | ⟨0, _⟩ => show ((grid1.coords t) 0).val ≤ (y 0).val ∧ (y 0).val < ((grid1.coords t) 0).val + 1; omega
      | ⟨1, _⟩ => show 0 ≤ (y 1).val ∧ (y 1).val < 0 + 1024; omega
      | ⟨2, _⟩ => show 0 ≤ (y 2).val ∧ (y 2).val < 0 + 256; omega
    have et : (⟨(y 0).val, lt_of_lt_of_eq (y 0).isLt (show 21 = cfg1.N from N_1.symm)⟩ : Fin cfg1.N) = t := Fin.ext hyt
    unfold tab
    rw [et]
    refine put_of_mem (s := S21x1024x256) d _ S1x1024x256.size _ y hin _ fun a => ?_
    match a with
    | ⟨0, _⟩ => show 0 = (y 0).val - ((grid1.coords t) 0).val; omega
    | ⟨1, _⟩ => show (y 1).val = (y 1).val - 0; omega
    | ⟨2, _⟩ => show (y 2).val = (y 2).val - 0; omega
  · refine (put_of_not_mem (s := S21x1024x256) d _ S1x1024x256.size _ y fun hin => ?_).trans (h y (by omega))
    have h0 : ((grid1.coords t) 0).val ≤ (y 0).val ∧ (y 0).val < ((grid1.coords t) 0).val + 1 := hin 0
    omega

theorem tabUpto_all {d : Vec F S21x1024x256 .bf16} (h : TabUpto c U d 21) : d = tab c U :=
  funext fun y => h y (y 0).isLt

theorem tabUpto_zero (d : Vec F S21x1024x256 .bf16) : TabUpto c U d 0 := fun _ h => absurd h (Nat.not_lt_zero _)

abbrev scM1_0 : Memref sig .tc .vmem S21x1024x256 .bf16 := Memref.whole cc1_scratch0
abbrev scM1_1 : Memref sig .tc .vmem S1024x1 .f32 := Memref.whole cc1_scratch1

/-- What the second call leaves alone: the first call's staging buffers and the generator's register. -/
def gRest (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)) ∗ (∃ r, prngReg c r))

/-- What the second call starts from: its two scratch buffers at anything, and the rest. -/
def Phi0 (c : Dev nD) : sProp 𝕄 :=
  iprop(iprop((∃ d, owns (c : Thread nD τ) scM1_0 fullShare d) ∗ (∃ d, owns (c : Thread nD τ) scM1_1 fullShare d)) ∗ gRest (F := F) c)

theorem PhiA1_in (c : Dev nD) : (Pipeline.ΦA spec1 c : sProp 𝕄) ⊢ Phi0 (F := F) c := by
  unfold Pipeline.ΦA Phi0 gRest; rw [scopedRest1_eq]; simp only [scM1_0, scM1_1, owns_whole]
  iintro ⟨⟨A0, A1, A2, A3, A4, A5, A6, A7, A8, S0, S1⟩, G⟩
  isplitl [S0 S1]
  · isplitl [S0]; · iexact S0
    iexact S1
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  iexact G

theorem PhiA1_out (c : Dev nD) : Phi0 (F := F) c ⊢ (Pipeline.ΦA spec1 c : sProp 𝕄) := by
  unfold Pipeline.ΦA Phi0 gRest; rw [scopedRest1_eq]; simp only [scM1_0, scM1_1, owns_whole]
  iintro ⟨⟨S0, S1⟩, ⟨A0, A1, A2, A3, A4, A5, A6, A7, A8⟩, G⟩
  isplitl [S0 S1 A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [S0]; · iexact S0
    iexact S1
  iexact G

/-- What the second call keeps in scratch before position `n`: the tiles so far and the running row maxima. -/
def PhiS : (n : ℕ) → n ≤ cfg1.N → sProp 𝕄
  | 0, _ => Phi0 c
  | n + 1, hn => iprop(iprop((∃ d, owns (c : Thread nD τ) scM1_0 fullShare d ∗ ⌜TabUpto c U d (n + 1)⌝)
      ∗ (∃ s, owns (c : Thread nD τ) scM1_1 fullShare s ∗ ⌜n < 20 → s = rmax c U n hn⌝)) ∗ gRest (F := F) c)

theorem PhiS_zero (n : ℕ) (h : n ≤ cfg1.N) (hz : n = 0) : PhiS c U n h = Phi0 c := by
  subst hz; rfl

theorem PhiS_succ (n : ℕ) (hn : n < cfg1.N) :
    PhiS c U (n + 1) hn = iprop(iprop((∃ d, owns (c : Thread nD τ) scM1_0 fullShare d ∗ ⌜TabUpto c U d (n + 1)⌝)
      ∗ (∃ s, owns (c : Thread nD τ) scM1_1 fullShare s ∗ ⌜n < 20 → s = rmax c U n hn⌝)) ∗ gRest (F := F) c) := rfl

theorem PhiS_pos (n : ℕ) (h : n ≤ cfg1.N) (hz : n ≠ 0) :
    PhiS c U n h = iprop(iprop((∃ d, owns (c : Thread nD τ) scM1_0 fullShare d ∗ ⌜TabUpto c U d n⌝)
      ∗ (∃ s, owns (c : Thread nD τ) scM1_1 fullShare s ∗ ⌜n - 1 < 20 → s = rmax c U (n - 1) (by omega)⌝)) ∗ gRest (F := F) c) := by
  cases n with
  | zero => exact absurd rfl hz
  | succ n => rfl

/-- The second call's proof data: the arrays as the call finds them, what the body leaves in every window at every point, and what it keeps in scratch. -/
def dat1 : Dat τ (Elt F) Unit ℕ (UR sig nD τ) ℕ cfg1 c where
  A w := U (Pipeline.arrRef spec1 w)
  after w t := match w with
    | ⟨0, _⟩ => iblk1 c U 0 t
    | ⟨1, _⟩ => iblk1 c U 1 t
    | ⟨2, _⟩ => iblk1 c U 2 t
    | ⟨3, _⟩ => iblk1 c U 3 t
    | ⟨4, _⟩ => iblk1 c U 4 t
    | ⟨5, _⟩ => iblk1 c U 5 t
    | ⟨6, _⟩ => iblk1 c U 6 t
    | ⟨7, _⟩ => tileAt c U t
    | ⟨8, _⟩ => finCodes c U
    | ⟨9, _⟩ => finScale c U
  Φ t := PhiS c U t.val (Nat.le_of_lt_succ t.isLt)
  q _ := fullShare
  owed _ := 0

theorem A1_eq (w : Fin cfg1.W) : (dat1 c U).A w = U (Pipeline.arrRef spec1 w) := by dsimp only [dat1]

theorem PhiS_castSucc (t : Fin cfg1.N) : (dat1 c U).Φ t.castSucc = PhiS c U t.val (Nat.le_of_lt t.isLt) := by
  dsimp only [dat1]; exact Pipeline.Dat.Φ_castSucc (PhiS c U) t

theorem after1_0 (t : Fin cfg1.N) : (dat1 c U).after 0 t = iblk1 c U 0 t := by dsimp only [dat1]
theorem after1_1 (t : Fin cfg1.N) : (dat1 c U).after 1 t = iblk1 c U 1 t := by dsimp only [dat1]
theorem after1_2 (t : Fin cfg1.N) : (dat1 c U).after 2 t = iblk1 c U 2 t := by dsimp only [dat1]
theorem after1_3 (t : Fin cfg1.N) : (dat1 c U).after 3 t = iblk1 c U 3 t := by dsimp only [dat1]
theorem after1_4 (t : Fin cfg1.N) : (dat1 c U).after 4 t = iblk1 c U 4 t := by dsimp only [dat1]
theorem after1_5 (t : Fin cfg1.N) : (dat1 c U).after 5 t = iblk1 c U 5 t := by dsimp only [dat1]
theorem after1_6 (t : Fin cfg1.N) : (dat1 c U).after 6 t = iblk1 c U 6 t := by dsimp only [dat1]
theorem after1_7 (t : Fin cfg1.N) : (dat1 c U).after 7 t = tileAt c U t := by dsimp only [dat1]
theorem after1_8 (t : Fin cfg1.N) : (dat1 c U).after 8 t = finCodes c U := by dsimp only [dat1]
theorem after1_9 (t : Fin cfg1.N) : (dat1 c U).after 9 t = finScale c U := by dsimp only [dat1]
theorem before1_0 (t : Fin cfg1.N) (d) : (dat1 c U).before 0 t d = iblk1 c U 0 t :=
  before1_0_of U (dat1 c U) (A1_eq c U 0) (after1_0 c U) t d
theorem before1_1 (t : Fin cfg1.N) (d) : (dat1 c U).before 1 t d = iblk1 c U 1 t :=
  before1_1_of U (dat1 c U) (A1_eq c U 1) (after1_1 c U) t d
theorem before1_2 (t : Fin cfg1.N) (d) : (dat1 c U).before 2 t d = iblk1 c U 2 t :=
  before1_2_of U (dat1 c U) (A1_eq c U 2) (after1_2 c U) t d
theorem before1_3 (t : Fin cfg1.N) (d) : (dat1 c U).before 3 t d = iblk1 c U 3 t :=
  before1_3_of U (dat1 c U) (A1_eq c U 3) (after1_3 c U) t d
theorem before1_4 (t : Fin cfg1.N) (d) : (dat1 c U).before 4 t d = iblk1 c U 4 t :=
  before1_4_of U (dat1 c U) (A1_eq c U 4) (after1_4 c U) t d
theorem before1_5 (t : Fin cfg1.N) (d) : (dat1 c U).before 5 t d = iblk1 c U 5 t :=
  before1_5_of U (dat1 c U) (A1_eq c U 5) (after1_5 c U) t d
theorem before1_6 (t : Fin cfg1.N) (d) : (dat1 c U).before 6 t d = iblk1 c U 6 t :=
  before1_6_of U (dat1 c U) (A1_eq c U 6) (after1_6 c U) t d
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem idleAt1_8 : ∀ t : Fin cfg1.N, t.val ≠ 20 → cfg1.idle 8 (grid1.coords t) = true := by decide +kernel
theorem noFlush1_8 : ∀ t : Fin cfg1.N, t.val ≠ 20 → (cfg1.win 8).flush t = false := by decide +kernel
theorem liveAt1_8 : ∀ t : Fin cfg1.N, t.val = 20 → cfg1.idle 8 (grid1.coords t) = false := by decide +kernel
theorem idleAt1_9 : ∀ t : Fin cfg1.N, t.val ≠ 20 → cfg1.idle 9 (grid1.coords t) = true := by decide +kernel
theorem noFlush1_9 : ∀ t : Fin cfg1.N, t.val ≠ 20 → (cfg1.win 9).flush t = false := by decide +kernel
theorem liveAt1_9 : ∀ t : Fin cfg1.N, t.val = 20 → cfg1.idle 9 (grid1.coords t) = false := by decide +kernel
abbrev ms1_0 (t : Fin cfg1.N) : Memref sig .tc .vmem S1024x16384 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16384x256 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x256 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x5376 .fp8e4m3 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024x1 .f32 := win1_9.stage (cfg1.slots t 9)
abbrev hs1_9 (t : Fin cfg1.N) : (ms1_9 t).IsWhole := hstage1_9 ((cfg1.slots t 9).cast nbuf1_9)

/-- What the body is called with at point `t`, window by window. -/
def bodyPre1 (t : Fin cfg1.N) : sProp 𝕄 :=
  iprop((dat1 c U).Φ t.castSucc ∗ (dat1 c U).owesAt () t.castSucc
    ∗ (∃ d, owns (c : Thread nD τ) (ms1_0 t) fullShare ((dat1 c U).before 0 t d))
    ∗ (∃ d, owns (c : Thread nD τ) (ms1_1 t) fullShare ((dat1 c U).before 1 t d))
    ∗ (∃ d, owns (c : Thread nD τ) (ms1_2 t) fullShare ((dat1 c U).before 2 t d))
    ∗ (∃ d, owns (c : Thread nD τ) (ms1_3 t) fullShare ((dat1 c U).before 3 t d))
    ∗ (∃ d, owns (c : Thread nD τ) (ms1_4 t) fullShare ((dat1 c U).before 4 t d))
    ∗ (∃ d, owns (c : Thread nD τ) (ms1_5 t) fullShare ((dat1 c U).before 5 t d))
    ∗ (∃ d, owns (c : Thread nD τ) (ms1_6 t) fullShare ((dat1 c U).before 6 t d))
    ∗ (∃ d, owns (c : Thread nD τ) (ms1_7 t) fullShare ((dat1 c U).before 7 t d))
    ∗ (∃ d, owns (c : Thread nD τ) (ms1_8 t) fullShare ((dat1 c U).before 8 t d))
    ∗ (∃ d, owns (c : Thread nD τ) (ms1_9 t) fullShare ((dat1 c U).before 9 t d)))

/-- and what it returns. -/
def bodyPost1 (t : Fin cfg1.N) : sProp 𝕄 :=
  iprop((dat1 c U).Φ t.succ ∗ (dat1 c U).owesAt () t.succ
    ∗ (dat1 c U).leavesExact 0 t
    ∗ (dat1 c U).leavesExact 1 t
    ∗ (dat1 c U).leavesExact 2 t
    ∗ (dat1 c U).leavesExact 3 t
    ∗ (dat1 c U).leavesExact 4 t
    ∗ (dat1 c U).leavesExact 5 t
    ∗ (dat1 c U).leavesExact 6 t
    ∗ (dat1 c U).leavesExact 7 t
    ∗ (dat1 c U).leavesExact 8 t
    ∗ (dat1 c U).leavesExact 9 t)

set_option maxHeartbeats 14400000 in
/-- The body at any point. -/
theorem sound_body1 (t : Fin cfg1.N) :
    bodyPre1 c U t ⊢ wp frame (wpE (defs₀ (F := F)) Variants.none c none) Set.univ (bodyAt1 t) (fun _ => bodyPost1 c U t) := by
  unfold bodyPre1 bodyPost1 bodyAt1
  simp only [before1_0, before1_1, before1_2, before1_3, before1_4, before1_5, before1_6]
  rw [show (dat1 c U).owesAt () t.succ = (dat1 c U).owesAt () t.castSucc from rfl]
  rw [show (dat1 c U).Φ t.succ = PhiS c U (t.val + 1) t.isLt from rfl, PhiS_succ]
  have hN : t.val < 21 := lt_of_lt_of_eq t.isLt (show cfg1.N = 21 from N_1)
  rw [show (dat1 c U).leavesExact 0 t = owns (c : Thread nD τ) (ms1_0 t) fullShare ((dat1 c U).after 0 t) from by
    unfold Dat.leavesExact; rw [liveAt1_0 t], after1_0]
  rw [show (dat1 c U).leavesExact 1 t = owns (c : Thread nD τ) (ms1_1 t) fullShare ((dat1 c U).after 1 t) from by
    unfold Dat.leavesExact; rw [liveAt1_1 t], after1_1]
  rw [show (dat1 c U).leavesExact 2 t = owns (c : Thread nD τ) (ms1_2 t) fullShare ((dat1 c U).after 2 t) from by
    unfold Dat.leavesExact; rw [liveAt1_2 t], after1_2]
  rw [show (dat1 c U).leavesExact 3 t = owns (c : Thread nD τ) (ms1_3 t) fullShare ((dat1 c U).after 3 t) from by
    unfold Dat.leavesExact; rw [liveAt1_3 t], after1_3]
  rw [show (dat1 c U).leavesExact 4 t = owns (c : Thread nD τ) (ms1_4 t) fullShare ((dat1 c U).after 4 t) from by
    unfold Dat.leavesExact; rw [liveAt1_4 t], after1_4]
  rw [show (dat1 c U).leavesExact 5 t = owns (c : Thread nD τ) (ms1_5 t) fullShare ((dat1 c U).after 5 t) from by
    unfold Dat.leavesExact; rw [liveAt1_5 t], after1_5]
  rw [show (dat1 c U).leavesExact 6 t = owns (c : Thread nD τ) (ms1_6 t) fullShare ((dat1 c U).after 6 t) from by
    unfold Dat.leavesExact; rw [liveAt1_6 t], after1_6]
  rw [show (dat1 c U).leavesExact 7 t = owns (c : Thread nD τ) (ms1_7 t) fullShare ((dat1 c U).after 7 t) from by
    unfold Dat.leavesExact; rw [liveAt1_7 t], after1_7]
  by_cases hz : t.val = 0
  · rw [Dat.leavesExact_idle (dat1 c U) 8 t (idleAt1_8 t (by omega)) (noFlush1_8 t (by omega))]
    rw [Dat.leavesExact_idle (dat1 c U) 9 t (idleAt1_9 t (by omega)) (noFlush1_9 t (by omega))]
    rw [PhiS_castSucc c U t, PhiS_zero c U _ _ hz, Phi0]
    iintro ⟨⟨⟨⟨%d, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr hz) (fun h => by have := (hcond1_1 t).mp h; omega) (fun h => by have := (hcond1_2 t).mp h; omega) (iblk1 c U 0 t) (iblk1 c U 1 t) (iblk1 c U 2 t) (iblk1 c U 3 t) (iblk1 c U 4 t) (iblk1 c U 5 t) (iblk1 c U 6 t) d _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexists _; isplitl [HS0]; · iexact HS0
          ipureintro; exact tabUpto_put c U (t := t) (by rw [hz]; exact tabUpto_zero c U d)
        iexists _; isplitl [HS1]; · iexact HS1
        ipureintro; intro _h
        exact (rmax_zero c U t hz).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · rw [PhiS_castSucc c U t, PhiS_pos c U _ _ hz]
    by_cases h2 : t.val = 20
    · rw [show (dat1 c U).leavesExact 8 t = owns (c : Thread nD τ) (ms1_8 t) fullShare ((dat1 c U).after 8 t) from by
        unfold Dat.leavesExact; rw [liveAt1_8 t h2], after1_8]
      rw [show (dat1 c U).leavesExact 9 t = owns (c : Thread nD τ) (ms1_9 t) fullShare ((dat1 c U).after 9 t) from by
        unfold Dat.leavesExact; rw [liveAt1_9 t h2], after1_9]
      iintro ⟨⟨⟨⟨%d, HS0, %htab⟩, ⟨%s, HS1, %hs⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have hs' := hs (by omega)
      subst hs'
      iapply (runC c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => hz ((hcond1_0 t).mp h)) ((hcond1_1 t).mpr (by omega)) ((hcond1_2 t).mpr h2) (iblk1 c U 0 t) (iblk1 c U 1 t) (iblk1 c U 2 t) (iblk1 c U 3 t) (iblk1 c U 4 t) (iblk1 c U 5 t) (iblk1 c U 6 t) d (rmax c U (t.val - 1) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexists _; isplitl [HS0]; · iexact HS0
            ipureintro; exact tabUpto_put c U (t := t) htab
          iexists _; isplitl [HS1]; · iexact HS1
          ipureintro; intro _h
          omega
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      have e21 : slotPut (grid1.coords t) d (slotAt c U t) = tab c U :=
        tabUpto_all c U (by have h := tabUpto_put c U (t := t) htab; rw [h2] at h; exact h)
      have em : k1_pay2 (maxAt c U t) (rmax c U (t.val - 1) (by omega)) = rmax c U 20 h20 := by
        rw [← rmax_pos c U t (by omega)]; congr 1
      isplitl [H8]
      · rw [show finCodes c U = codesOut (slotPut (grid1.coords t) d (slotAt c U t)) (fInv (k1_pay2 (maxAt c U t) (rmax c U (t.val - 1) (by omega)))) from by
          rw [e21, em]; rfl]
        iexact H8
      rw [show finScale c U = fScale (k1_pay2 (maxAt c U t) (rmax c U (t.val - 1) (by omega))) from by rw [em]; rfl]
      iexact H9
    · rw [Dat.leavesExact_idle (dat1 c U) 8 t (idleAt1_8 t (by omega)) (noFlush1_8 t (by omega))]
      rw [Dat.leavesExact_idle (dat1 c U) 9 t (idleAt1_9 t (by omega)) (noFlush1_9 t (by omega))]
      iintro ⟨⟨⟨⟨%d, HS0, %htab⟩, ⟨%s, HS1, %hs⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have hs' := hs (by omega)
      subst hs'
      iapply (runB c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => hz ((hcond1_0 t).mp h)) ((hcond1_1 t).mpr (by omega)) (fun h => h2 ((hcond1_2 t).mp h)) (iblk1 c U 0 t) (iblk1 c U 1 t) (iblk1 c U 2 t) (iblk1 c U 3 t) (iblk1 c U 4 t) (iblk1 c U 5 t) (iblk1 c U 6 t) d (rmax c U (t.val - 1) (by omega)) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexists _; isplitl [HS0]; · iexact HS0
            ipureintro; exact tabUpto_put c U (t := t) htab
          iexists _; isplitl [HS1]; · iexact HS1
          ipureintro; intro _h
          exact (rmax_pos c U t (by omega)).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

theorem defs₀_row1 (t : Fin cfg1.N) :
    defs₀ (F := F) .tc cfg1.body (cfg1.bodyArgs t (cfg1.slots t)) = bodyAt1 t := by
  unfold defs₀; rw [Defs.onTc_tc]

/-- The second call's body obligation. -/
theorem body_obligation1 : BodyObligation (dat1 c U) (defs₀ (F := F)) Variants.none () Set.univ := fun t => by
  rw [bigSep_W1, bigSep_W1, defs₀_row1]
  exact triple_restated (sound_body1 c U t) rfl .rfl fun _ => .rfl

theorem hin1 : Pipeline.ΦA spec1 c ⊢ (dat1 c U).Φ 0 := by
  rw [show (dat1 c U).Φ 0 = PhiS c U 0 (Nat.zero_le _) from rfl, PhiS_zero c U 0 _ rfl]
  exact PhiA1_in c

theorem hout1 : (dat1 c U).Φ (Fin.last cfg1.N) ⊢ Pipeline.ΦA spec1 c := by
  rw [show (dat1 c U).Φ (Fin.last cfg1.N) = PhiS c U (Fin.last cfg1.N).val (Nat.le_of_lt_succ (Fin.last cfg1.N).isLt) from rfl,
    PhiS_pos c U _ _ (by rw [Fin.val_last]; have : cfg1.N = 21 := N_1; omega)]
  refine BIBase.Entails.trans ?_ (PhiA1_out c)
  unfold Phi0
  iintro ⟨⟨⟨%d, HS0, -⟩, ⟨%s, HS1, -⟩⟩, Hg⟩
  isplitl [HS0 HS1]
  · isplitl [HS0]
    · iexists _; iexact HS0
    iexists _; iexact HS1
  iexact Hg

end

end Cert.KernelIdeal.Hand

end
-- ==== Proof.KI.Ingest.lean ====
/- The first call (quantise the rows of `x` and multiply by `lora_a`): its proof data at any entry contents of the arrays. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it (`U`). -/
def iblk0 (c : Dev nD) (U : (b : Ref sig .tc) → Buf (Elt F) ((c : Thread nD τ).loc b)) (w : Fin cfg0.W) (t : Fin cfg0.N) : ((cfg0.win w).xblock (cfg0.grid.coords t)).Idx → Elt F (cfg0.win w).elt :=
  ((cfg0.win w).blk t).view.read (Elt F) (U (Pipeline.arrRef spec0 w))

/-- Input window 0's current staging buffer holds its block at every point, fetched there or not, for ANY proof
    data whose array is `U`'s (`hA`) and whose body leaves the block in place (`hafter`): Lib/Pipeline/FrameBody.lean
    `Dat.before_in_eq_fetched` (unfetched, the index has not moved), the window uncut and never idle. -/
theorem before0_0_of {c : Dev nD} (U : (b : Ref sig .tc) → Buf (Elt F) ((c : Thread nD τ).loc b)) (dat : Dat τ (Elt F) Unit ℕ (UR sig nD τ) ℕ cfg0 c) (hA : dat.A 0 = U (Pipeline.arrRef spec0 0))
    (hafter : ∀ t, dat.after 0 t = iblk0 c U 0 t) (t : Fin cfg0.N) (d) : dat.before 0 t d = iblk0 c U 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `U`'s (`hA`) and whose body leaves the block in place (`hafter`): Lib/Pipeline/FrameBody.lean
    `Dat.before_in_eq_fetched` (unfetched, the index has not moved), the window uncut and never idle. -/
theorem before0_1_of {c : Dev nD} (U : (b : Ref sig .tc) → Buf (Elt F) ((c : Thread nD τ).loc b)) (dat : Dat τ (Elt F) Unit ℕ (UR sig nD τ) ℕ cfg0 c) (hA : dat.A 1 = U (Pipeline.arrRef spec0 1))
    (hafter : ∀ t, dat.after 1 t = iblk0 c U 1 t) (t : Fin cfg0.N) (d) : dat.before 1 t d = iblk0 c U 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x16384 := Rect.unit (s := S128x16384) ![0, 0] S128x16384.size inb_S128x16384_S128x16384_0_0
abbrev r0_1 : Rect S128x1 := Rect.unit (s := S128x1) ![0, 0] S128x1.size inb_S128x1_S128x1_0_0
abbrev r0_2 : Rect S16384x64 := Rect.unit (s := S16384x64) ![0, 0] S16384x64.size inb_S16384x64_S16384x64_0_0
abbrev r0_3 : Rect S128x64 := Rect.unit (s := S128x64) ![0, 0] S128x64.size inb_S128x64_S128x64_0_0

/-! ## What the body leaves in each output window's buffer -/

/-- The codes the first call stores, from its block of `x`. -/
def codesP (x0 : Vec F S128x16384 .bf16) : Vec F S128x16384 .fp8e4m3 :=
  k0_pay1 (k0_pay8 (k0_pay3 x0) (k0_pay4 x0) (k0_pay5 x0)) (Scalar.ofBits .f32 0x43E00000#32) (k0_pay9 (F := F))
/-- The row scales it stores. -/
def scaleP (x0 : Vec F S128x16384 .bf16) : FVec F S128x1 .f32 := k0_pay7 (k0_pay4 x0) (k0_pay5 x0)
/-- The product with `lora_a` it stores. -/
def tP (x0 : Vec F S128x16384 .bf16) (x1 : Vec F S16384x64 .bf16) : Vec F S128x64 .bf16 := k0_pay2 (k0_pay3 x0) x1

/-- Window 2's staging buffer after the body, from the input windows' blocks: its 1 store as pieces, LAST
    FIRST (Lib/Pipeline/FrameBody.lean `View.canon`; the payloads are the skeleton's and the values stated above). -/
def out0_2 (x0 : Vec F S128x16384 .bf16) (x1 : Vec F S16384x64 .bf16) : Vec F S128x16384 .fp8e4m3 :=
  View.canon [⟨r0_0, codesP (View.ld x0 r0_0)⟩]

/-- Its stores tile the buffer (checked by evaluation), so they cover it. -/
theorem cover0_2 (p0 : Vec F S128x16384 .fp8e4m3) (y : S128x16384.Idx) :
    ∃ pc ∈ ([⟨r0_0, p0⟩] : List (View.Piece (Elt F) S128x16384 .fp8e4m3)), y ∈ pc.1.set :=
  View.cover_of_tiled [⟨r0_0, p0⟩] S128x16384.size (by rfl) y

/-- Window 3's staging buffer after the body, from the input windows' blocks: its 1 store as pieces, LAST
    FIRST (Lib/Pipeline/FrameBody.lean `View.canon`; the payloads are the skeleton's and the values stated above). -/
def out0_3 (x0 : Vec F S128x16384 .bf16) (x1 : Vec F S16384x64 .bf16) : Vec F S128x1 .f32 :=
  View.canon [⟨r0_1, scaleP (View.ld x0 r0_0)⟩]

/-- Its stores tile the buffer (checked by evaluation), so they cover it. -/
theorem cover0_3 (p0 : Vec F S128x1 .f32) (y : S128x1.Idx) :
    ∃ pc ∈ ([⟨r0_1, p0⟩] : List (View.Piece (Elt F) S128x1 .f32)), y ∈ pc.1.set :=
  View.cover_of_tiled [⟨r0_1, p0⟩] S128x1.size (by rfl) y

/-- Window 4's staging buffer after the body, from the input windows' blocks: its 1 store as pieces, LAST
    FIRST (Lib/Pipeline/FrameBody.lean `View.canon`; the payloads are the skeleton's and the values stated above). -/
def out0_4 (x0 : Vec F S128x16384 .bf16) (x1 : Vec F S16384x64 .bf16) : Vec F S128x64 .bf16 :=
  View.canon [⟨r0_3, tP (View.ld x0 r0_0) (View.ld x1 r0_2)⟩]

/-- Its stores tile the buffer (checked by evaluation), so they cover it. -/
theorem cover0_4 (p0 : Vec F S128x64 .bf16) (y : S128x64.Idx) :
    ∃ pc ∈ ([⟨r0_3, p0⟩] : List (View.Piece (Elt F) S128x64 .bf16)), y ∈ pc.1.set :=
  View.cover_of_tiled [⟨r0_3, p0⟩] S128x64.size (by rfl) y

/-! ## The body's triple -/

set_option maxHeartbeats 4000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S128x16384 .bf16) (harg1 : arg1.IsWhole) (arg2 : Memref sig .tc .vmem S16384x64 .bf16) (harg2 : arg2.IsWhole) (arg3 : Memref sig .tc .vmem S128x16384 .fp8e4m3) (harg3 : arg3.IsWhole) (arg4 : Memref sig .tc .vmem S128x1 .f32) (harg4 : arg4.IsWhole) (arg5 : Memref sig .tc .vmem S128x64 .bf16) (harg5 : arg5.IsWhole)
    (x0 : Vec F S128x16384 .bf16) (x1 : Vec F S16384x64 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := F)) Variants.none c none) E (cc0_ingest i arg1 harg1 arg2 harg2 arg3 harg3 arg4 harg4 arg5 harg5) K := by
  simp only [cc0_ingest_eq_skeleton]; unfold cc0_ingest_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

/-! ## The pipeline's proof data -/

variable (c : Dev nD) (U : (b : Ref sig .tc) → Buf (Elt F) ((c : Thread nD τ).loc b))

/-- The proof data of the one pipeline on core `c`: the arrays as the region finds them (`U`); after the body at
    point `t` each input's buffer at its block and each output's at `out0_W` of the input blocks; the invariant the
    class's (Lib/Pipeline/Frame.lean `ΦA`: the scoped rest and the generator register, untouched); nothing owed;
    full shares. -/
def dat0 : Dat τ (Elt F) Unit ℕ (UR sig nD τ) ℕ cfg0 c where
  A w := U (Pipeline.arrRef spec0 w)
  after w t := match w with
    | ⟨0, _⟩ => iblk0 c U 0 t
    | ⟨1, _⟩ => iblk0 c U 1 t
    | ⟨2, _⟩ => out0_2 (iblk0 c U 0 t) (iblk0 c U 1 t)
    | ⟨3, _⟩ => out0_3 (iblk0 c U 0 t) (iblk0 c U 1 t)
    | ⟨4, _⟩ => out0_4 (iblk0 c U 0 t) (iblk0 c U 1 t)
  Φ _ := Pipeline.ΦA spec0 c
  q _ := fullShare
  owed _ := 0

/-- The proof data's arrays are the region-entry contents: the proof data's definition projected (`dsimp`), so that
    `U` — a fold over @main's host prefix, long for some programs — is never unfolded to check it. -/
theorem A0_eq (w : Fin cfg0.W) : (dat0 c U).A w = U (Pipeline.arrRef spec0 w) := by
  dsimp only [dat0]

/-- What the body leaves, window by window (the proof data's `match` reduced by `dsimp`, never `rfl`: Lib/Pipeline.lean `Dat`). -/
theorem after0_0 (t : Fin cfg0.N) : (dat0 c U).after 0 t = iblk0 c U 0 t := by dsimp only [dat0]
theorem after0_1 (t : Fin cfg0.N) : (dat0 c U).after 1 t = iblk0 c U 1 t := by dsimp only [dat0]
theorem after0_2 (t : Fin cfg0.N) : (dat0 c U).after 2 t = out0_2 (iblk0 c U 0 t) (iblk0 c U 1 t) := by dsimp only [dat0]
theorem after0_3 (t : Fin cfg0.N) : (dat0 c U).after 3 t = out0_3 (iblk0 c U 0 t) (iblk0 c U 1 t) := by dsimp only [dat0]
theorem after0_4 (t : Fin cfg0.N) : (dat0 c U).after 4 t = out0_4 (iblk0 c U 0 t) (iblk0 c U 1 t) := by dsimp only [dat0]

/-- Each input's current staging buffer holds its block at every point, fetched there or not (`beforeK_W_of`). -/
theorem before0_0 (t : Fin cfg0.N) (d) : (dat0 c U).before 0 t d = iblk0 c U 0 t :=
  before0_0_of U (dat0 c U) (A0_eq c U 0) (after0_0 c U) t d
theorem before0_1 (t : Fin cfg0.N) (d) : (dat0 c U).before 1 t d = iblk0 c U 1 t :=
  before0_1_of U (dat0 c U) (A0_eq c U 1) (after0_1 c U) t d

/-! ## The body obligation, at a generic point -/

/-- What the body is called with at point `t` (Lib/Pipeline.lean `BodyObligation`'s precondition, the windows one by one), -/
def bodyPre0 (t : Fin cfg0.N) : sProp 𝕄 :=
  iprop((dat0 c U).Φ t.castSucc ∗ (dat0 c U).owesAt () t.castSucc
    ∗ (∃ d, owns (c : Thread nD τ) (st0_0 t) fullShare ((dat0 c U).before 0 t d))
    ∗ (∃ d, owns (c : Thread nD τ) (st0_1 t) fullShare ((dat0 c U).before 1 t d))
    ∗ (∃ d, owns (c : Thread nD τ) (st0_2 t) fullShare ((dat0 c U).before 2 t d))
    ∗ (∃ d, owns (c : Thread nD τ) (st0_3 t) fullShare ((dat0 c U).before 3 t d))
    ∗ (∃ d, owns (c : Thread nD τ) (st0_4 t) fullShare ((dat0 c U).before 4 t d)))

/-- and what it returns. -/
def bodyPost0 (t : Fin cfg0.N) : sProp 𝕄 :=
  iprop((dat0 c U).Φ t.succ ∗ (dat0 c U).owesAt () t.succ
    ∗ owns (c : Thread nD τ) (st0_0 t) fullShare ((dat0 c U).after 0 t)
    ∗ owns (c : Thread nD τ) (st0_1 t) fullShare ((dat0 c U).after 1 t)
    ∗ owns (c : Thread nD τ) (st0_2 t) fullShare ((dat0 c U).after 2 t)
    ∗ owns (c : Thread nD τ) (st0_3 t) fullShare ((dat0 c U).after 3 t)
    ∗ owns (c : Thread nD τ) (st0_4 t) fullShare ((dat0 c U).after 4 t))

/-- The body at any point: the inputs' memrefs hold their blocks (`before0_W`), so `sound_kernel` applies; the invariant and
    the core's `owes` pass through unread. -/
theorem sound_body0 (t : Fin cfg0.N) :
    bodyPre0 c U t ⊢ wp frame (wpE (defs₀ (F := F)) Variants.none c none) Set.univ (bodyAt0 t) (fun _ => bodyPost0 c U t) := by
  unfold bodyPre0 bodyPost0 bodyAt0
  simp only [before0_0, before0_1]
  rw [show (dat0 c U).Φ t.succ = (dat0 c U).Φ t.castSucc from rfl,
    show (dat0 c U).owesAt () t.succ = (dat0 c U).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk0 c U 0 t) (iblk0 c U 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 : BodyObligation (dat0 c U) (defs₀ (F := F)) Variants.none () Set.univ := fun t => by
  rw [bigSep_W0, bigSep_W0, defs₀_row0]
  exact triple_restated (sound_body0 c U t) rfl .rfl fun _ => .rfl

end Cert.KernelIdeal.Hand

end
-- ==== Proof.KI.Run.lean ====
/- The two calls as segments of the program: what each leaves in its arrays, and the run of the whole program, every
   buffer read at the end. -/
module

public import proofs.«01_k».proof.Proof.KI.Project
public import proofs.«01_k».proof.Proof.KI.Ingest
public import proofs.«01_k».proof.Proof.Gen.KernelIdeal.Regions
public import Idealize.ShloMosaic.Lib.Pipeline.RegionsLoop
public import Idealize.ShloMosaic.Lib.Claim
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the first call finds them. -/
abbrev U0 (c : Dev nD) (b : Ref sig .tc) : Buf (Elt F) ((c : Thread nD τ).loc b) := V1 m c b

/-- What the first call leaves in its three results (read at those three only). -/
def outsA (r : Ref sig .tc) (c : Dev nD) : Buf (Elt F) ((c : Thread nD τ).loc r) :=
  Function.update (Function.update (Function.update (U0 m c) main_v2_0 ((dat0 c (U0 m c)).arrAt 2 cfg0.N))
    main_v2_1 ((dat0 c (U0 m c)).arrAt 3 cfg0.N)) main_v2_2 ((dat0 c (U0 m c)).arrAt 4 cfg0.N) r

/-- The buffers as the second call finds them. -/
abbrev U1 (c : Dev nD) (b : Ref sig .tc) : Buf (Elt F) ((c : Thread nD τ).loc b) := V3 m (fun _ r c => outsA m r c) c b

/-- What the second call leaves in its three results. -/
def outsB (r : Ref sig .tc) (c : Dev nD) : Buf (Elt F) ((c : Thread nD τ).loc r) :=
  Function.update (Function.update (Function.update (U1 m c) main_v4_0 ((dat1 c (U1 m c)).arrAt 7 cfg1.N))
    main_v4_1 ((dat1 c (U1 m c)).arrAt 8 cfg1.N)) main_v4_2 ((dat1 c (U1 m c)).arrAt 9 cfg1.N) r

/-- What the calls leave. -/
def outsK : Outs (F := F) := fun J r c => match J with
  | 2 => outsA m r c
  | _ => outsB m r c

theorem outsA_0 (c : Dev nD) : outsA m main_v2_0 c = (dat0 c (U0 m c)).arrAt 2 cfg0.N := by
  unfold outsA
  rw [Function.update_of_ne (by decide), Function.update_of_ne (by decide), Function.update_self]
theorem outsA_1 (c : Dev nD) : outsA m main_v2_1 c = (dat0 c (U0 m c)).arrAt 3 cfg0.N := by
  unfold outsA
  rw [Function.update_of_ne (by decide), Function.update_self]
theorem outsA_2 (c : Dev nD) : outsA m main_v2_2 c = (dat0 c (U0 m c)).arrAt 4 cfg0.N := by
  unfold outsA
  rw [Function.update_self]
theorem outsB_0 (c : Dev nD) : outsB m main_v4_0 c = (dat1 c (U1 m c)).arrAt 7 cfg1.N := by
  unfold outsB
  rw [Function.update_of_ne (by decide), Function.update_of_ne (by decide), Function.update_self]
theorem outsB_1 (c : Dev nD) : outsB m main_v4_1 c = (dat1 c (U1 m c)).arrAt 8 cfg1.N := by
  unfold outsB
  rw [Function.update_of_ne (by decide), Function.update_self]
theorem outsB_2 (c : Dev nD) : outsB m main_v4_2 c = (dat1 c (U1 m c)).arrAt 9 cfg1.N := by
  unfold outsB
  rw [Function.update_self]

theorem V2_v2_0 (c : Dev nD) : V2 m (outsK m) c main_v2_0 = (dat0 c (U0 m c)).arrAt 2 cfg0.N := by
  rw [← outsA_0]
  simp only [V2]
  rw [Function.update_of_ne (StableHlo.devRef_ne_of_ne (by decide)), Function.update_of_ne (StableHlo.devRef_ne_of_ne (by decide)), Function.update_self]
  rfl
theorem V2_v2_1 (c : Dev nD) : V2 m (outsK m) c main_v2_1 = (dat0 c (U0 m c)).arrAt 3 cfg0.N := by
  rw [← outsA_1]
  simp only [V2]
  rw [Function.update_of_ne (StableHlo.devRef_ne_of_ne (by decide)), Function.update_self]
  rfl
theorem V2_v2_2 (c : Dev nD) : V2 m (outsK m) c main_v2_2 = (dat0 c (U0 m c)).arrAt 4 cfg0.N := by
  rw [← outsA_2]
  simp only [V2]
  rw [Function.update_self]
  rfl
theorem V4_v4_0 (c : Dev nD) : V4 m (outsK m) c main_v4_0 = (dat1 c (U1 m c)).arrAt 7 cfg1.N := by
  rw [← outsB_0]
  simp only [V4]
  rw [Function.update_of_ne (StableHlo.devRef_ne_of_ne (by decide)), Function.update_of_ne (StableHlo.devRef_ne_of_ne (by decide)), Function.update_self]
  rfl
theorem V4_v4_1 (c : Dev nD) : V4 m (outsK m) c main_v4_1 = (dat1 c (U1 m c)).arrAt 8 cfg1.N := by
  rw [← outsB_1]
  simp only [V4]
  rw [Function.update_of_ne (StableHlo.devRef_ne_of_ne (by decide)), Function.update_self]
  rfl
theorem V4_v4_2 (c : Dev nD) : V4 m (outsK m) c main_v4_2 = (dat1 c (U1 m c)).arrAt 9 cfg1.N := by
  rw [← outsB_2]
  simp only [V4]
  rw [Function.update_self]
  rfl

/-- The proof data of the two calls. -/
def pdats : (p : Fin 2) → (c : Dev nD) → Dat τ (Elt F) Unit ℕ (UR sig nD τ) ℕ (cfgs p) c
  | ⟨0, _⟩ => fun c => dat0 c (U0 m c)
  | ⟨1, _⟩ => fun c => dat1 c (U1 m c)

/-- No core owes another anything: no level is assigned. -/
abbrev LL : GSem nD τ sig → Finset Unit := fun _ => ∅
abbrev lvl : GSem nD τ sig → Unit → ℕ := fun _ _ => 0

/-- What rides along beside the buffers between the items: the generator's register, and nothing owed. -/
abbrev EE (_ : Fin 3) (c : Dev nD) : sProp 𝕄 := iprop((∃ r, prngReg c r) ∗ ∃ W, owes (c : Thread nD τ) (0 : CellTallies nD τ sig Unit) W)

-- the lemmas stated over a pinned configuration unify only when unification may unfold plain definitions in a metavariable's type
set_option backward.isDefEq.respectTransparency.types false in
set_option maxHeartbeats 4000000 in
/-- Call 0 over the thread state "every unscoped buffer at the valuation, the register, nothing owed". -/
def reg0 : RegionSeg (pcfgs (F := F)) adm (pdats m) () defs₀ Variants.none LL lvl 0 where
  win := launch0.win.to₀
  block_pos := launch0.block_pos
  stage_whole := launch0.stage_whole
  K := PEmpty
  osem k := k.elim
  ho := Pipeline.OwnSemFacts.none _
  hbody c := (body_obligation0 c (U0 m c)).loose
  hwaits := Pipeline.hwaits_of_owed_zero _ _ _ _ LL lvl 0 fun _ _ => rfl
  pre c := iprop(StableHlo.held (c : Thread nD τ) (Pipeline.ucRefs τ sig) (V1 m c) ∗ EE 0 c)
  post c := iprop(StableHlo.held (c : Thread nD τ) (Pipeline.ucRefs τ sig) (V2 m (outsK m) c) ∗ EE 1 c)
  X c := iprop(∃ r, prngReg c r)
  Y c := iprop(∃ r, prngReg c r)
  Z c := iprop(Pipeline.unscopedRest (Ix := Unit) (Name := ℕ) (U := UR sig nD τ) (Lvl := ℕ) spec0 c (fun b => V1 m c b))
  hentry c := by
    rw [Pipeline.ownSems0_none, ← Pipeline.unscopedBufs_held (Ix := Unit) (Name := ℕ) (U := UR sig nD τ) (Lvl := ℕ) c (V1 m c)]
    have hsplit := Pipeline.arrays_of_unscopedBufs (p := 0) (pcfgs (F := F)) adm (pdats m) launch0.win launch0.arr_whole c
      ((pdats m 0 c).share_full fun _ => rfl) (fun b => V1 m c b) fun w => A0_eq c (U0 m c) w
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR]; · iexact HR
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    rw [← Pipeline.unscopedBufs_held (Ix := Unit) (Name := ℕ) (U := UR sig nD τ) (Lvl := ℕ) c (V2 m (outsK m) c)]
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => V1 m c b) (fun b => V2 m (outsK m) c b) ((pdats m 0 c).arrAt · cfg0.N)
      (fun w => by
        match w with
        | ⟨0, _⟩ => exact ((dat0 c (U0 m c)).arrAt_in 0 rfl _).trans ((A0_eq c (U0 m c) 0).trans (V2_of m (outsK m) c main_v0 (by decide)).symm)
        | ⟨1, _⟩ => exact ((dat0 c (U0 m c)).arrAt_in 1 rfl _).trans ((A0_eq c (U0 m c) 1).trans (V2_of m (outsK m) c main_arg4 (by decide)).symm)
        | ⟨2, _⟩ => exact (V2_v2_0 m c).symm
        | ⟨3, _⟩ => exact (V2_v2_1 m c).symm
        | ⟨4, _⟩ => exact (V2_v2_2 m c).symm
        )
      (fun b hb => V2_of m (outsK m) c b fun h => hb (by
        simp only [List.mem_cons, List.not_mem_nil, _root_.or_false] at h
        rcases h with h | h | h
        · exact h ▸ Finset.mem_image.mpr ⟨2, Finset.mem_univ _, rfl⟩
        · exact h ▸ Finset.mem_image.mpr ⟨3, Finset.mem_univ _, rfl⟩
        · exact h ▸ Finset.mem_image.mpr ⟨4, Finset.mem_univ _, rfl⟩))
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- the lemmas stated over a pinned configuration unify only when unification may unfold plain definitions in a metavariable's type
set_option backward.isDefEq.respectTransparency.types false in
set_option maxHeartbeats 4000000 in
/-- Call 1 over the thread state "every unscoped buffer at the valuation, the register, nothing owed". -/
def reg1 : RegionSeg (pcfgs (F := F)) adm (pdats m) () defs₀ Variants.none LL lvl 1 where
  win := launch1.win.to₀
  block_pos := launch1.block_pos
  stage_whole := launch1.stage_whole
  K := PEmpty
  osem k := k.elim
  ho := Pipeline.OwnSemFacts.none _
  hbody c := (body_obligation1 c (U1 m c)).loose
  hwaits := Pipeline.hwaits_of_owed_zero _ _ _ _ LL lvl 1 fun _ _ => rfl
  pre c := iprop(StableHlo.held (c : Thread nD τ) (Pipeline.ucRefs τ sig) (V3 m (outsK m) c) ∗ EE 1 c)
  post c := iprop(StableHlo.held (c : Thread nD τ) (Pipeline.ucRefs τ sig) (V4 m (outsK m) c) ∗ EE 2 c)
  X c := iprop(∃ r, prngReg c r)
  Y c := iprop(∃ r, prngReg c r)
  Z c := iprop(Pipeline.unscopedRest (Ix := Unit) (Name := ℕ) (U := UR sig nD τ) (Lvl := ℕ) spec1 c (fun b => V3 m (outsK m) c b))
  hentry c := by
    rw [Pipeline.ownSems0_none, ← Pipeline.unscopedBufs_held (Ix := Unit) (Name := ℕ) (U := UR sig nD τ) (Lvl := ℕ) c (V3 m (outsK m) c)]
    have hsplit := Pipeline.arrays_of_unscopedBufs (p := 1) (pcfgs (F := F)) adm (pdats m) launch1.win launch1.arr_whole c
      ((pdats m 1 c).share_full fun _ => rfl) (fun b => V3 m (outsK m) c b) fun w => A1_eq c (U1 m c) w
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR]; · iexact HR
    iexact Hrest
  hin c := by
    refine BIBase.Entails.trans ?_ (hin1 c (U1 m c))
    unfold Pipeline.ΦA
    iintro ⟨Hp, -, Hr⟩
    isplitl [Hr]; · iexact Hr
    iexact Hp
  hout c := by
    rw [Pipeline.ownSems0_none]
    refine BIBase.Entails.trans (hout1 c (U1 m c)) ?_
    unfold Pipeline.ΦA
    iintro ⟨Hr, Hp⟩
    isplitl [Hp]; · iexact Hp
    isplitr; · iempintro
    iexact Hr
  hexit c := by
    rw [← Pipeline.unscopedBufs_held (Ix := Unit) (Name := ℕ) (U := UR sig nD τ) (Lvl := ℕ) c (V4 m (outsK m) c)]
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => V3 m (outsK m) c b) (fun b => V4 m (outsK m) c b) ((pdats m 1 c).arrAt · cfg1.N)
      (fun w => by
        match w with
        | ⟨0, _⟩ => exact ((dat1 c (U1 m c)).arrAt_in 0 rfl _).trans ((A1_eq c (U1 m c) 0).trans (V4_of m (outsK m) c main_v2_0 (by decide)).symm)
        | ⟨1, _⟩ => exact ((dat1 c (U1 m c)).arrAt_in 1 rfl _).trans ((A1_eq c (U1 m c) 1).trans (V4_of m (outsK m) c main_v2_1 (by decide)).symm)
        | ⟨2, _⟩ => exact ((dat1 c (U1 m c)).arrAt_in 2 rfl _).trans ((A1_eq c (U1 m c) 2).trans (V4_of m (outsK m) c main_v2_2 (by decide)).symm)
        | ⟨3, _⟩ => exact ((dat1 c (U1 m c)).arrAt_in 3 rfl _).trans ((A1_eq c (U1 m c) 3).trans (V4_of m (outsK m) c main_arg2 (by decide)).symm)
        | ⟨4, _⟩ => exact ((dat1 c (U1 m c)).arrAt_in 4 rfl _).trans ((A1_eq c (U1 m c) 4).trans (V4_of m (outsK m) c main_v3 (by decide)).symm)
        | ⟨5, _⟩ => exact ((dat1 c (U1 m c)).arrAt_in 5 rfl _).trans ((A1_eq c (U1 m c) 5).trans (V4_of m (outsK m) c main_arg5 (by decide)).symm)
        | ⟨6, _⟩ => exact ((dat1 c (U1 m c)).arrAt_in 6 rfl _).trans ((A1_eq c (U1 m c) 6).trans (V4_of m (outsK m) c main_v1 (by decide)).symm)
        | ⟨7, _⟩ => exact (V4_v4_0 m c).symm
        | ⟨8, _⟩ => exact (V4_v4_1 m c).symm
        | ⟨9, _⟩ => exact (V4_v4_2 m c).symm
        )
      (fun b hb => V4_of m (outsK m) c b fun h => hb (by
        simp only [List.mem_cons, List.not_mem_nil, _root_.or_false] at h
        rcases h with h | h | h
        · exact h ▸ Finset.mem_image.mpr ⟨7, Finset.mem_univ _, rfl⟩
        · exact h ▸ Finset.mem_image.mpr ⟨8, Finset.mem_univ _, rfl⟩
        · exact h ▸ Finset.mem_image.mpr ⟨9, Finset.mem_univ _, rfl⟩))
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- the run lemma's implicit arguments are found by unifying its conclusion with this one
set_option backward.isDefEq.respectTransparency.types false in
set_option maxHeartbeats 4000000 in
/-- The run: every final state holds every unscoped buffer at the last valuation, and every semaphore counter at zero. -/
theorem run_all : θ_run defs (onTc (τ := τ) (main (F := F))) ⟨m, fun _ => 0, ρ⟩ (fun r => (∀ c : Dev nD,
      ∀ b ∈ Pipeline.ucRefs τ sig, r.2.mem (c, b) = V5 m (outsK m) c b) ∧ r.2.sem = fun _ => 0) := by
  refine Pipeline.θ_run_regions_kit_dev_sems (pcfgs (F := F)) adm (pdats m) () cellOf_inj emb₁ defs₀ Variants.none LL lvl m ρ main
    (segs m (outsK m) Variants.none LL lvl EE () (pdats m) (reg0 m) (reg1 m))
    (fun c Q => by
      rewrite [main_chain c, Seg.run_eq_chain,
        show (segs m (outsK m) Variants.none LL lvl EE () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj)) (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EE 0 c))
    (Tₙ := fun c => StableHlo.held (c : Thread nD τ) (Pipeline.ucRefs τ sig) (V5 m (outsK m) c))
    (hch := fun c => ⟨.rfl, .rfl, .rfl, .rfl, .rfl, sep_mono .rfl (by iintro ⟨-, H⟩; iexact H)⟩)
    (hinit := ?_) (QY := fun c s => ∀ b ∈ Pipeline.ucRefs τ sig, s.mem (c, b) = V5 m (outsK m) c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ emp))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    ihave HE := (show (bigSep Finset.univ fun c : Dev nD => iprop(unscopedSems0 c ∗ owes (c.tc : Thread nD τ) (0 : CellTallies nD τ sig Unit) ∅ ∗ Pipeline.launchCred (fun _ => 0) c ∗ prngReg c (ρ c) ∗ emp))
        ⊢ (bigSep Finset.univ fun c : Dev nD => EE (F := F) 0 c : sProp 𝕄) from bigSep_mono fun c _ =>
      (show iprop(unscopedSems0 c ∗ owes (c.tc : Thread nD τ) (0 : CellTallies nD τ sig Unit) ∅ ∗ Pipeline.launchCred (fun _ => 0) c ∗ prngReg c (ρ c) ∗ emp)
        ⊢ (EE (F := F) 0 c : sProp 𝕄) from by
      iintro ⟨-, HO, -, Hp, -⟩
      isplitl [Hp]; · iexists _; iexact Hp
      iexists _; iexact HO)) $$ Hr
    imodintro
    iapply (show iprop((bigSep Finset.univ fun c : Dev nD => StableHlo.held (c : Thread nD τ) (Pipeline.ucRefs τ sig) (V0 m c))
        ∗ bigSep Finset.univ fun c : Dev nD => EE (F := F) 0 c)
        ⊢ (bigSep Finset.univ fun c : Dev nD => iprop(StableHlo.held (c : Thread nD τ) (Pipeline.ucRefs τ sig) (V0 m c) ∗ EE (F := F) 0 c) : sProp 𝕄) from
      Entails.of_eq (bigSep_sep' _ _ _).symm)
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m (outsK m) c) s') $$ [Hh HSI]
    · isplitl [Hh] <;> iassumption
    icases Hr with ⟨%h, HSI⟩
    imodintro
    isplitr
    · ipureintro
      exact fun b hb => h b hb
    · iexact HSI

/-- A buffer of the TensorCore that is not scoped is one of those read at the end. -/
theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- The frame: each argument ends as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c (Proc.devRef .tc main_arg0) (mem_uc main_arg0 (by decide))).trans (V5_main_arg0 m (outsK m) c),
    (h.1 c (Proc.devRef .tc main_arg1) (mem_uc main_arg1 (by decide))).trans (V5_main_arg1 m (outsK m) c),
    (h.1 c (Proc.devRef .tc main_arg2) (mem_uc main_arg2 (by decide))).trans (V5_main_arg2 m (outsK m) c),
    (h.1 c (Proc.devRef .tc main_arg3) (mem_uc main_arg3 (by decide))).trans (V5_main_arg3 m (outsK m) c),
    (h.1 c (Proc.devRef .tc main_arg4) (mem_uc main_arg4 (by decide))).trans (V5_main_arg4 m (outsK m) c),
    (h.1 c (Proc.devRef .tc main_arg5) (mem_uc main_arg5 (by decide))).trans (V5_main_arg5 m (outsK m) c)⟩, h.2⟩) (run_all m ρ)

end Cert.KernelIdeal.Hand

end
-- ==== Proof.V.Scale.lean ====
/- The power-of-two scale of a row, as numbers: the kernel's search of the exponent field against the least power above. -/
module

public import Idealize.ShloMosaic.Lib.Pointwise
public import Mathlib.Tactic.NormNum
public import Mathlib.Tactic.Linarith
public import Mathlib.Tactic.IntervalCases

@[expose] public section

set_option maxRecDepth 16384

noncomputable section

namespace Cert.Spec

open Idealize.ShloMosaic

/-- The number whose f32 pattern has exponent field `n` and nothing else. -/
def P (n : ℕ) : EReal := Ideal.ofBits .f32 (IntOp.shli .vector (BitVec.ofNat 32 n) 23#32)

theorem fieldBits : ∀ n : Fin 256,
    ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by
  decide +kernel

theorem P_eq (n : ℕ) (hn : n < 256) :
    P n = if n = 255 then ⊤ else if n = 0 then 0 else (((2 : ℝ) ^ ((n : ℤ) - 127) : ℝ) : EReal) := by
  obtain ⟨h1, h2, h3⟩ := fieldBits ⟨n, hn⟩
  simp only at h1 h2 h3
  show Ideal.ieee 8 23 (IntOp.shli .vector (BitVec.ofNat 32 n) 23#32) = _
  unfold Ideal.ieee
  generalize IntOp.shli .vector (BitVec.ofNat 32 n) 23#32 = w at h1 h2 h3 ⊢
  dsimp only
  rw [h2, h3]
  have h1' : (w.extractLsb' (8 + 23) 1 == 1#1) = false := h1
  rw [h1']
  by_cases h255 : n = 255
  · rw [if_pos (by omega), if_pos h255]; rfl
  · rw [if_neg (by omega), if_neg h255]
    by_cases h0 : n = 0
    · rw [if_pos h0, if_pos h0]; simp
    · rw [if_neg h0, if_neg h0]
      congr 1
      have h2 : (2 : ℝ) ≠ 0 := by norm_num
      rw [show (((2 ^ 23 + 0 : ℕ) : ℕ) : ℝ) = (2 : ℝ) ^ (23 : ℤ) by norm_num]
      simp only [Bool.false_eq_true, if_false, one_mul]
      rw [← zpow_add₀ h2]
      congr 1
      norm_num

theorem P_zero : P 0 = 0 := by rw [P_eq 0 (by omega)]; simp
theorem P_top : P 255 = ⊤ := by rw [P_eq 255 (by omega)]; simp
theorem P_mid (n : ℕ) (h0 : 0 < n) (h1 : n < 255) : P n = (((2 : ℝ) ^ ((n : ℤ) - 127) : ℝ) : EReal) := by
  rw [P_eq n (by omega), if_neg (by omega), if_neg (by omega)]
theorem P_127 : P 127 = 1 := by rw [P_mid 127 (by omega) (by omega)]; norm_num

theorem P_lt {a b : ℕ} (h : a < b) (hb : b < 256) : P a < P b := by
  rcases Nat.eq_or_lt_of_le (Nat.le_of_lt_succ hb : b ≤ 255) with rfl | hb'
  · rw [P_top, P_eq a (by omega), if_neg (by omega)]
    split
    · exact EReal.coe_lt_top 0
    · exact EReal.coe_lt_top _
  · rw [P_mid b (by omega) hb']
    rcases Nat.eq_zero_or_pos a with rfl | ha
    · rw [P_zero]
      exact_mod_cast (zpow_pos (by norm_num : (0 : ℝ) < 2) _)
    · rw [P_mid a ha (by omega)]
      exact EReal.coe_lt_coe_iff.mpr (zpow_lt_zpow_right₀ (by norm_num : (1 : ℝ) < 2) (by omega))

theorem P_le {a b : ℕ} (h : a ≤ b) (hb : b < 256) : P a ≤ P b := by
  rcases Nat.eq_or_lt_of_le h with rfl | h
  · exact le_refl _
  · exact (P_lt h hb).le

/-! ## The kernel's search -/

/-- One step of the search: the field `f` with `b` added where the pattern of the sum is not above `v`. -/
def stepB (v : EReal) (f b : BitVec 32) : BitVec 32 :=
  Scalar.select (Ideal.cmp .oge v (Ideal.ofBits .f32 (IntOp.shli .vector (f + b) 23#32))) (f + b) f

theorem step_inv (v : EReal) (n b : ℕ) (h1 : P n ≤ v) (h2 : n + 2 * b ≤ 256) (h3 : n + 2 * b = 256 ∨ v < P (n + 2 * b)) :
    ∃ n', stepB v (BitVec.ofNat 32 n) (BitVec.ofNat 32 b) = BitVec.ofNat 32 n' ∧ P n' ≤ v ∧ n' + b ≤ 256
      ∧ (n' + b = 256 ∨ v < P (n' + b)) := by
  unfold stepB
  rw [← BitVec.ofNat_add]
  change ∃ n', Scalar.select (Ideal.cmp .oge v (P (n + b))) _ _ = _ ∧ _
  by_cases h : P (n + b) ≤ v
  · refine ⟨n + b, ?_, h, by omega, ?_⟩
    · simp [Ideal.cmp, Scalar.select, h]
    · rw [show n + b + b = n + 2 * b by omega]; exact h3
  · refine ⟨n, ?_, h1, by omega, Or.inr (not_le.mp h)⟩
    simp [Ideal.cmp, Scalar.select, h]

/-- The field the eight steps find. -/
def kField5 (v : EReal) : BitVec 32 := stepB v (stepB v (stepB v (stepB v (stepB v 0#32 128#32) 64#32) 32#32) 16#32) 8#32
def kField (v : EReal) (f : BitVec 32) : BitVec 32 := stepB v (stepB v (stepB v f 4#32) 2#32) 1#32

theorem kField_spec (v : EReal) (hv : 0 ≤ v) :
    ∃ n, kField v (kField5 v) = BitVec.ofNat 32 n ∧ P n ≤ v ∧ n < 256 ∧ (n = 255 ∨ v < P (n + 1)) := by
  obtain ⟨n1, e1, a1, b1, c1⟩ := step_inv v 0 128 (by rw [P_zero]; exact hv) (by omega) (Or.inl rfl)
  obtain ⟨n2, e2, a2, b2, c2⟩ := step_inv v n1 64 a1 b1 c1
  obtain ⟨n3, e3, a3, b3, c3⟩ := step_inv v n2 32 a2 b2 c2
  obtain ⟨n4, e4, a4, b4, c4⟩ := step_inv v n3 16 a3 b3 c3
  obtain ⟨n5, e5, a5, b5, c5⟩ := step_inv v n4 8 a4 b4 c4
  obtain ⟨n6, e6, a6, b6, c6⟩ := step_inv v n5 4 a5 b5 c5
  obtain ⟨n7, e7, a7, b7, c7⟩ := step_inv v n6 2 a6 b6 c6
  obtain ⟨n8, e8, a8, b8, c8⟩ := step_inv v n7 1 a7 b7 c7
  refine ⟨n8, ?_, a8, by omega, c8.imp (fun h => by omega) id⟩
  unfold kField kField5
  rw [e1, e2, e3, e4, e5, e6, e7, e8]

/-- The exponent the field stands for. -/
def kExp (f : BitVec 32) : BitVec 32 :=
  Scalar.select (IntOp.ori (IntOp.cmpi .eq f 0#32) (IntOp.cmpi .eq f 255#32)) 0#32 (IntOp.subi f 126#32)

/-- The kernel's scale and its inverse, as patterns made of the exponent. -/
def kScaleOf (f : BitVec 32) : EReal := Ideal.ofBits .f32 (IntOp.shli .vector (IntOp.addi 127#32 (kExp f)) 23#32)
def kInvOf (f : BitVec 32) : EReal := Ideal.ofBits .f32 (IntOp.shli .vector (IntOp.subi 127#32 (kExp f)) 23#32)
def kScale (v : EReal) : EReal := kScaleOf (kField v (kField5 v))
def kInv (v : EReal) : EReal := kInvOf (kField v (kField5 v))

theorem kExp_mid : ∀ n : Fin 256, n.val ≠ 0 → n.val ≠ 255 →
    IntOp.addi 127#32 (kExp (BitVec.ofNat 32 n.val)) = BitVec.ofNat 32 (n.val + 1)
    ∧ (n.val ≠ 254 → IntOp.subi 127#32 (kExp (BitVec.ofNat 32 n.val)) = BitVec.ofNat 32 (253 - n.val)) := by
  decide +kernel

/-! ## The reference's scale -/

/-- The power of two at position `k` of the reference's list. -/
def pw (k : ℕ) : EReal := Ideal.exp2 ((((BitVec.ofNat 32 k).toInt : ℝ) : EReal) - Ideal.ofBits .f32 0x42FA0000#32)

/-- The least listed power above `v`, `⊤` if there is none. -/
def above (v : EReal) : EReal :=
  (Finset.univ : Finset (Fin 253)).fold min ⊤ fun k => Scalar.select (Ideal.cmp .olt v (pw k.val)) (pw k.val) ⊤

/-- The reference's scale and its inverse. -/
def rScale (v : EReal) : EReal :=
  Scalar.select (IntOp.ori (Ideal.cmp .olt v (Ideal.ofBits .f32 0x00800000#32)) (Ideal.cmp .oeq v ⊤)) 1 (above v)
def rInv (s : EReal) : EReal :=
  Scalar.select (Ideal.cmp .oeq s ⊤) ⊥ (Scalar.select (Ideal.cmp .oeq s (Ideal.ofBits .f32 0x7F000000#32)) 0 (Ideal.div 1 s))

theorem pw_eq (k : ℕ) (hk : k < 253) : pw k = P (k + 2) := by
  have h125 : Ideal.ofBits .f32 0x42FA0000#32 = ((125 : ℝ) : EReal) := by
    simp [Ideal.ofBits, Ideal.ieee, -EReal.coe_mul]; norm_num
  have hk' : (BitVec.ofNat 32 k).toInt = (k : ℤ) := by
    rw [BitVec.toInt_ofNat']
    simp only [Int.bmod]
    omega
  unfold pw
  rw [h125, hk', P_mid (k + 2) (by omega) (by omega), ← EReal.coe_sub]
  show ((Real.rpow 2 _ : ℝ) : EReal) = _
  congr 1
  show (2 : ℝ) ^ (((k : ℤ) : ℝ) - 125) = _
  rw [← Real.rpow_intCast]
  congr 1
  push_cast
  ring

theorem above_eq (v : EReal) (n : ℕ) (h0 : 0 < n) (h1 : n < 255) (h2 : P n ≤ v) (h3 : v < P (n + 1)) : above v = P (n + 1) := by
  unfold above
  apply le_antisymm
  · rcases Nat.eq_or_lt_of_le (Nat.le_of_lt_succ h1 : n ≤ 254) with rfl | hn
    · rw [P_top]; exact le_top
    · refine (Finset.fold_min_le _).mpr (Or.inr ⟨⟨n - 1, by omega⟩, Finset.mem_univ _, ?_⟩)
      have e : pw (n - 1) = P (n + 1) := by rw [pw_eq _ (by omega)]; congr 1; omega
      simp only [e]
      simp [Ideal.cmp, Scalar.select, h3]
  · refine (Finset.le_fold_min _).mpr ⟨le_top, fun k _ => ?_⟩
    rw [pw_eq k.val k.isLt]
    by_cases h : v < P (k.val + 2)
    · have : n < k.val + 2 := by
        by_contra hc
        exact absurd (lt_of_le_of_lt h2 h) (not_lt.mpr (P_le (by omega) (by omega)))
      simp only [Ideal.cmp, Scalar.select, h]
      exact P_le (by omega) (by omega)
    · simp [Ideal.cmp, Scalar.select, h]

theorem scale_inv_eq (v : EReal) (hv : 0 ≤ v) : kScale v = rScale v ∧ kInv v = rInv (rScale v) := by
  obtain ⟨n, e, h1, h2, h3⟩ := kField_spec v hv
  have hP1 : Ideal.ofBits .f32 0x00800000#32 = P 1 := rfl
  have hP254 : Ideal.ofBits .f32 0x7F000000#32 = P 254 := rfl
  have one_ne : (1 : EReal) ≠ P 254 := by
    rw [← P_127]; exact (P_lt (by omega) (by omega)).ne
  have hinv1 : rInv 1 = 1 := by
    unfold rInv
    rw [hP254]
    have : (1 : EReal) ≠ ⊤ := by rw [← P_127, ← P_top]; exact (P_lt (by omega) (by omega)).ne
    simp [Ideal.cmp, Scalar.select, this, one_ne, Ideal.div]
  unfold kScale kInv
  rw [e]
  by_cases hz : n = 0 ∨ n = 255
  · have hr : rScale v = 1 := by
      unfold rScale
      rw [hP1]
      rcases hz with rfl | rfl
      · have : v < P 1 := h3.resolve_left (by omega)
        have hb : v ≠ ⊤ := fun h => by rw [h] at this; exact not_top_lt this
        simp only [Ideal.cmp, Scalar.select, IntOp.ori, this, hb, decide_true, decide_false]
        rfl
      · have : v = ⊤ := by rw [P_top] at h1; exact top_le_iff.mp h1
        have hb : ¬ v < P 1 := by rw [this]; exact not_top_lt
        simp only [Ideal.cmp, Scalar.select, IntOp.ori, hb, decide_false]
        rw [this]
        simp
    rw [hr, hinv1]
    have : kExp (BitVec.ofNat 32 n) = 0#32 := by rcases hz with rfl | rfl <;> decide
    unfold kScaleOf kInvOf
    rw [this]
    exact ⟨P_127, P_127⟩
  · have hn0 : n ≠ 0 := fun h => hz (Or.inl h)
    have hn1 : n ≠ 255 := fun h => hz (Or.inr h)
    have h3' := h3.resolve_left hn1
    have hr : rScale v = P (n + 1) := by
      unfold rScale
      rw [hP1]
      have ha : ¬ v < P 1 := not_lt.mpr (le_trans (P_le (by omega) (by omega)) h1)
      have hb : v ≠ ⊤ := fun h => by rw [h] at h3'; exact not_top_lt h3'
      rw [above_eq v n (by omega) (by omega) h1 h3']
      simp [Ideal.cmp, Scalar.select, IntOp.ori, ha, hb]
    obtain ⟨k1, k2⟩ := kExp_mid ⟨n, h2⟩ hn0 hn1
    simp only at k1 k2
    rw [hr]
    refine ⟨by unfold kScaleOf; rw [k1]; rfl, ?_⟩
    unfold kInvOf rInv
    rw [hP254]
    by_cases h254 : n = 254
    · subst h254
      rw [P_top]
      have : IntOp.shli .vector (IntOp.subi 127#32 (kExp (BitVec.ofNat 32 254))) 23#32 = 0xFF800000#32 := by decide
      rw [this]
      simp [Ideal.cmp, Scalar.select, Ideal.ofBits, Ideal.ieee]
    · rw [k2 h254]
      change P (253 - n) = _
      have ht : P (n + 1) ≠ ⊤ := by rw [← P_top]; exact (P_lt (by omega) (by omega)).ne
      by_cases h253 : n = 253
      · subst h253
        simp [Ideal.cmp, Scalar.select, ht, P_zero]
      · have h254' : P (n + 1) ≠ P 254 := (P_lt (by omega) (by omega)).ne
        have h0 : P (n + 1) ≠ 0 := by rw [← P_zero]; exact (P_lt (by omega) (by omega)).ne'
        simp only [Ideal.cmp, Scalar.select, ht, h254', Ideal.div, h0]
        rw [P_mid (253 - n) (by omega) (by omega), P_mid (n + 1) (by omega) (by omega)]
        simp only [decide_false, BitVec.ofBool_false]
        norm_num
        rw [← EReal.coe_inv, ← zpow_neg]
        congr 2
        push_cast
        omega

end Cert.Spec

end
-- ==== Proof.V.Spec.lean ====
/- The work in numbers: the rows' scales, the codes, the products and the sum, entry by entry. -/
module

public import proofs.«01_k».proof.Proof.V.Scale

@[expose] public section

set_option maxRecDepth 16384

noncomputable section

namespace Cert.Spec

open Idealize.ShloMosaic
open scoped BigOperators

/-- A rank-2 array of extended reals. -/
abbrev A (m n : ℕ) := (⟨2, ![m, n]⟩ : Shape).Idx → EReal

variable {m n d r : ℕ}

/-- One over 448 as the programs write it, and the ends of the codes' range. -/
def cq : EReal := Ideal.ofBits .f32 0x3B124925#32
def lo : EReal := Ideal.ofBits .f32 0xC3E00000#32
def hi : EReal := Ideal.ofBits .f32 0x43E00000#32
def two : EReal := Ideal.ofBits .f32 0x40000000#32

/-- The greatest absolute value of row `i`. -/
def amax (x : A m n) (i : Fin m) : EReal := (Finset.univ : Finset (Fin n)).fold max ⊥ fun k => max (x (ix2 i k)) (-(x (ix2 i k)))

/-- A number scaled and clipped. -/
def quant (a s : EReal) : EReal := min hi (max lo (a * s))

/-- Row `i`'s scale, and the entry's code. -/
def scaleAt (x : A m n) (i : Fin m) : EReal := rScale (amax x i * cq)
def codeAt (x : A m n) (i : Fin m) (k : Fin n) : EReal := quant (x (ix2 i k)) (rInv (scaleAt x i))
def scales (x : A m n) : A m 1 := fun j => scaleAt x (j 0)
def codes (x : A m n) : A m n := fun j => codeAt x (j 0) (j 1)

/-- A matrix product. -/
def mmAt (a : A m d) (b : A d n) (i : Fin m) (j : Fin n) : EReal := ∑ k : Fin d, a (ix2 i k) * b (ix2 k j)
def mm (a : A m d) (b : A d n) : A m n := fun j => mmAt a b (j 0) (j 1)

/-- Residual, scaled product and adapter. -/
def hAt (xc : A m d) (xs : A m 1) (t : A m r) (w : A d n) (ws : A 1 n) (b : A r n) (res : A m n) (i : Fin m) (j : Fin n) : EReal :=
  res (ix2 i j) + mmAt xc w i j * xs (ix2 i 0) * ws (ix2 0 j) + mmAt t b i j * two
def hOf (xc : A m d) (xs : A m 1) (t : A m r) (w : A d n) (ws : A 1 n) (b : A r n) (res : A m n) : A m n :=
  fun j => hAt xc xs t w ws b res (j 0) (j 1)

theorem cq_nonneg : 0 ≤ cq := by
  unfold cq
  simp [Ideal.ofBits, Ideal.ieee, -EReal.coe_mul]

theorem abs_nonneg' (x : EReal) : 0 ≤ max x (-x) := by
  rcases le_total 0 x with h | h
  · exact le_max_of_le_left h
  · exact le_max_of_le_right (by rw [EReal.neg_nonneg]; exact h)

theorem amax_nonneg (hn : 0 < n) (x : A m n) (i : Fin m) : 0 ≤ amax x i :=
  (Finset.le_fold_max _).mpr (Or.inr ⟨⟨0, hn⟩, Finset.mem_univ _, abs_nonneg' _⟩)

theorem v_nonneg (hn : 0 < n) (x : A m n) (i : Fin m) : 0 ≤ amax x i * cq :=
  mul_nonneg (amax_nonneg hn x i) cq_nonneg

/-- The greatest absolute value of a row depends on the row's entries only. -/
theorem amax_congr {m' : ℕ} (x : A m n) (y : A m' n) (i : Fin m) (i' : Fin m') (h : ∀ k, x (ix2 i k) = y (ix2 i' k)) :
    amax x i = amax y i' := by
  unfold amax
  exact Finset.fold_congr fun k _ => by rw [h k]

theorem scaleAt_congr {m' : ℕ} (x : A m n) (y : A m' n) (i : Fin m) (i' : Fin m') (h : ∀ k, x (ix2 i k) = y (ix2 i' k)) :
    scaleAt x i = scaleAt y i' := by
  unfold scaleAt
  rw [amax_congr x y i i' h]

theorem codeAt_congr {m' : ℕ} (x : A m n) (y : A m' n) (i : Fin m) (i' : Fin m') (k : Fin n) (h : ∀ k, x (ix2 i k) = y (ix2 i' k)) :
    codeAt x i k = codeAt y i' k := by
  unfold codeAt
  rw [scaleAt_congr x y i i' h, h k]

theorem mmAt_congr {m' n' : ℕ} (a : A m d) (b : A d n) (a' : A m' d) (b' : A d n') (i : Fin m) (i' : Fin m') (j : Fin n) (j' : Fin n')
    (ha : ∀ k, a (ix2 i k) = a' (ix2 i' k)) (hb : ∀ k, b (ix2 k j) = b' (ix2 k j')) : mmAt a b i j = mmAt a' b' i' j' := by
  unfold mmAt
  exact Finset.sum_congr rfl fun k _ => by rw [ha k, hb k]

theorem hAt_congr {m' n' : ℕ} (xc : A m d) (xs : A m 1) (t : A m r) (w : A d n) (ws : A 1 n) (b : A r n) (res : A m n)
    (xc' : A m' d) (xs' : A m' 1) (t' : A m' r) (w' : A d n') (ws' : A 1 n') (b' : A r n') (res' : A m' n')
    (i : Fin m) (j : Fin n) (i' : Fin m') (j' : Fin n')
    (h0 : ∀ k, xc (ix2 i k) = xc' (ix2 i' k)) (h1 : xs (ix2 i 0) = xs' (ix2 i' 0)) (h2 : ∀ k, t (ix2 i k) = t' (ix2 i' k))
    (h3 : ∀ k, w (ix2 k j) = w' (ix2 k j')) (h4 : ws (ix2 0 j) = ws' (ix2 0 j')) (h5 : ∀ k, b (ix2 k j) = b' (ix2 k j'))
    (h6 : res (ix2 i j) = res' (ix2 i' j')) : hAt xc xs t w ws b res i j = hAt xc' xs' t' w' ws' b' res' i' j' := by
  unfold hAt
  rw [mmAt_congr xc w xc' w' i i' j j' h0 h3, mmAt_congr t b t' b' i i' j j' h2 h5, h1, h4, h6]

/-- The greatest absolute value is the least bound of the entries. -/
theorem amax_le (x : A m n) (i : Fin m) (b : EReal) : amax x i ≤ b ↔ ∀ k, max (x (ix2 i k)) (-(x (ix2 i k))) ≤ b := by
  unfold amax
  rw [Finset.fold_max_le]
  simp

end Cert.Spec

end
-- ==== Proof.V.Outs.lean ====
/- The five results as functions of the six arguments. -/
module

public import proofs.«01_k».proof.Proof.V.Spec

@[expose] public section

set_option maxRecDepth 16384

noncomputable section

namespace Cert.Spec

open Idealize.ShloMosaic

/-- A rank-3 array of extended reals with one leading row, and a rank-1 array. -/
abbrev B (m n : ℕ) := (⟨3, ![1, m, n]⟩ : Shape).Idx → EReal
abbrev C (n : ℕ) := (⟨1, ![n]⟩ : Shape).Idx → EReal

/-- The arguments as the calls take them. -/
def inX (x : B 1024 16384) : A 1024 16384 := shapeCast ⟨2, ![1024, 16384]⟩ x (by decide)
def inR (x : B 1024 5376) : A 1024 5376 := shapeCast ⟨2, ![1024, 5376]⟩ x (by decide)
def inS (x : C 5376) : A 1 5376 := shapeCast ⟨2, ![1, 5376]⟩ x (by decide)

/-- The calls' arrays as the program returns them. -/
def outH (x : A 1024 5376) : B 1024 5376 := shapeCast ⟨3, ![1, 1024, 5376]⟩ x (by decide)
def outC (x : A 1024 16384) : B 1024 16384 := shapeCast ⟨3, ![1, 1024, 16384]⟩ x (by decide)
def outS (x : A 1024 1) : (⟨2, ![1, 1024]⟩ : Shape).Idx → EReal := shapeCast ⟨2, ![1, 1024]⟩ x (by decide)

/-- The hidden rows of the six arguments. -/
def hidden (x : B 1024 16384) (res : B 1024 5376) (w : A 16384 5376) (ws : C 5376) (a : A 16384 64) (b : A 64 5376) : A 1024 5376 :=
  hOf (codes (inX x)) (scales (inX x)) (mm (inX x) a) w (inS ws) b (inR res)

end Cert.Spec

end
-- ==== Proof.V.KPay.lean ====
/- The kernel's blocks, entry by entry. -/
module

public import proofs.«01_k».proof.Proof.V.Spec
public import proofs.«01_k».proof.Proof.KI.Ingest
public import proofs.«01_k».proof.Proof.KI.Project

@[expose] public section

set_option maxRecDepth 16384

noncomputable section

namespace Cert.KernelIdeal.Hand

open Cert.KernelIdeal Cert.KernelIdeal.Gen Cert.Spec
open Idealize.ShloMosaic

theorem hbot16 : Ideal.ofBits .bf16 0xFF80#16 = ⊥ := by simp [Ideal.ofBits, Ideal.ieee]

/-! ## The search for the exponent field, on columns -/

section Steps

variable {s : Shape}

/-- One step of the search. -/
def stepV (v : FVec Ideal s .f32) (f b : IVec s 32) : IVec s 32 :=
  select (cmpf .oge v (bitcastToFloat .f32 (shli (addi f b) (broadcast s 23#32)))) (addi f b) f

theorem stepV_at (v : FVec Ideal s .f32) (f b : IVec s 32) (j : s.Idx) : stepV v f b j = stepB (v j) (f j) (b j) := rfl

/-- The exponent of a field. -/
def expV (f : IVec s 32) : IVec s 32 :=
  select (ori (cmpi .eq f (broadcast s 0#32)) (cmpi .eq f (broadcast s 255#32))) (broadcast s 0#32) (subi f (broadcast s 126#32))

theorem expV_at (f : IVec s 32) (j : s.Idx) : expV f j = kExp (f j) := rfl

def scaleV (e : IVec s 32) : FVec Ideal s .f32 := bitcastToFloat .f32 (shli (addi (broadcast s 127#32) e) (broadcast s 23#32))
def invV (e : IVec s 32) : FVec Ideal s .f32 := bitcastToFloat .f32 (shli (subi (broadcast s 127#32) e) (broadcast s 23#32))

theorem scaleV_at (e : IVec s 32) (j : s.Idx) : scaleV e j = Ideal.ofBits .f32 (IntOp.shli .vector (IntOp.addi 127#32 (e j)) 23#32) := rfl
theorem invV_at (e : IVec s 32) (j : s.Idx) : invV e j = Ideal.ofBits .f32 (IntOp.shli .vector (IntOp.subi 127#32 (e j)) 23#32) := rfl

/-- The field after five steps, and after the last three. -/
def field5V (v : FVec Ideal s .f32) : IVec s 32 :=
  stepV v (stepV v (stepV v (stepV v (stepV v (broadcast s 0#32) (broadcast s 128#32)) (broadcast s 64#32)) (broadcast s 32#32)) (broadcast s 16#32)) (broadcast s 8#32)
def fieldV (v : FVec Ideal s .f32) (f : IVec s 32) : IVec s 32 :=
  stepV v (stepV v (stepV v f (broadcast s 4#32)) (broadcast s 2#32)) (broadcast s 1#32)

theorem field5V_at (v : FVec Ideal s .f32) (j : s.Idx) : field5V v j = kField5 (v j) := by
  unfold field5V kField5
  simp only [stepV_at]
  rfl

theorem fieldV_at (v : FVec Ideal s .f32) (f : IVec s 32) (j : s.Idx) : fieldV v f j = kField (v j) (f j) := by
  unfold fieldV kField
  simp only [stepV_at]
  rfl

end Steps

/-! ## The first call -/

theorem k0_pay5_eq (x : Vec Ideal S128x16384 .bf16) : k0_pay5 x = field5V (k0_pay4 x) := by
  unfold k0_pay5 field5V stepV
  rfl

theorem k0_pay6_eq (v : FVec Ideal S128x1 .f32) (f : IVec S128x1 32) : k0_pay6 v f = expV (fieldV v f) := by
  unfold k0_pay6 expV fieldV stepV
  rfl

theorem k0_pay7_eq (v : FVec Ideal S128x1 .f32) (f : IVec S128x1 32) : k0_pay7 v f = scaleV (k0_pay6 v f) := by
  unfold k0_pay7 scaleV
  rfl

theorem red0_at (v : FVec Ideal S128x16384 .bf16) (i : Fin 128) : multiReduction .maximumf [1] S128 v 0xFF80#16 reduces_S128x16384_S128 (.inr rfl) rfl (ix1 i) = Finset.univ.fold max (Ideal.ofBits .bf16 0xFF80#16) fun k : Fin 16384 => v (ix2 i k) := by
  pointwise

theorem col0_at (v : FVec Ideal S128 .bf16) (i : Fin 128) (z : Fin 1) : shapeCast S128x1 v shapeCasts_S128_S128x1 (ix2 i z) = v (ix1 i) := by
  pointwise

theorem k0_pay3_at (x : Vec Ideal S128x16384 .bf16) (j : S128x16384.Idx) : k0_pay3 x j = x j := by
  pointwise [k0_pay3]

/-- The column of the block's row maxima. -/
def bmax0 (x : Vec Ideal S128x16384 .bf16) : FVec Ideal S128x1 .bf16 :=
  shapeCast S128x1 (multiReduction .maximumf [1] S128 (absf (k0_pay3 x)) 0xFF80#16 reduces_S128x16384_S128 (.inr rfl) rfl) shapeCasts_S128_S128x1

theorem bmax0_at (x : Vec Ideal S128x16384 .bf16) (i : Fin 128) (z : Fin 1) : bmax0 x (ix2 i z) = amax (m := 128) (n := 16384) x i := by
  unfold bmax0 amax
  rw [col0_at, red0_at, hbot16]
  refine Finset.fold_congr fun k _ => ?_
  show max (k0_pay3 x (ix2 i k)) (-(k0_pay3 x (ix2 i k))) = _
  rw [k0_pay3_at]

theorem mulc_at (u : FVec Ideal S128x1 .bf16) (j : S128x1.Idx) :
    mulf (extf .f32 u bitsLt_bf16_f32) (broadcast S128x1 (Scalar.ofBits .f32 0x3B124925#32)) j = u j * cq := rfl

theorem k0_pay4_eq (x : Vec Ideal S128x16384 .bf16) : k0_pay4 x = mulf (extf .f32 (bmax0 x) bitsLt_bf16_f32) (broadcast S128x1 (Scalar.ofBits .f32 0x3B124925#32)) := by
  unfold k0_pay4 bmax0
  rfl

theorem k0_pay4_at (x : Vec Ideal S128x16384 .bf16) (i : Fin 128) (z : Fin 1) : k0_pay4 x (ix2 i z) = amax (m := 128) (n := 16384) x i * cq := by
  rw [k0_pay4_eq, mulc_at, bmax0_at]

theorem scaleP_at (x : Vec Ideal S128x16384 .bf16) (i : Fin 128) (z : Fin 1) : scaleP x (ix2 i z) = scaleAt (m := 128) (n := 16384) x i := by
  unfold scaleP scaleAt
  rw [k0_pay7_eq, scaleV_at, k0_pay6_eq, expV_at, fieldV_at, k0_pay5_eq, field5V_at, k0_pay4_at,
    ← (scale_inv_eq _ (v_nonneg (by omega) (m := 128) (n := 16384) x i)).1]
  rfl

theorem bc0_at (v : FVec Ideal S128x1 .f32) (i : Fin 128) (k : Fin 16384) : broadcastTo S128x16384 v broadcasts_S128x1_S128x16384 (ix2 i k) = v (ix2 i 0) := by
  pointwise

def mulCol0 (u : FVec Ideal S128x16384 .bf16) (s : FVec Ideal S128x1 .f32) : FVec Ideal S128x16384 .f32 :=
  mulf (extf .f32 u bitsLt_bf16_f32) (broadcastTo S128x16384 s broadcasts_S128x1_S128x16384)

theorem mulCol0_at (u : FVec Ideal S128x16384 .bf16) (s : FVec Ideal S128x1 .f32) (i : Fin 128) (k : Fin 16384) : mulCol0 u s (ix2 i k) = u (ix2 i k) * s (ix2 i 0) := by
  rw [← bc0_at s i k]
  rfl

theorem k0_pay8_eq (u : FVec Ideal S128x16384 .bf16) (v : FVec Ideal S128x1 .f32) (f : IVec S128x1 32) : k0_pay8 u v f = mulCol0 u (invV (k0_pay6 v f)) := by
  unfold k0_pay8 mulCol0 invV
  rfl

theorem k0_pay1_at (u : FVec Ideal S128x16384 .f32) (j : S128x16384.Idx) :
    k0_pay1 u (Scalar.ofBits .f32 0x43E00000#32) (k0_pay9 (F := Ideal)) j = min hi (max lo (u j)) := by
  unfold k0_pay1 k0_pay9
  rfl

theorem codesP_at (x : Vec Ideal S128x16384 .bf16) (i : Fin 128) (k : Fin 16384) : codesP x (ix2 i k) = codeAt (m := 128) (n := 16384) x i k := by
  unfold codesP codeAt quant scaleAt
  rw [k0_pay1_at, k0_pay8_eq, mulCol0_at, k0_pay3_at, invV_at, k0_pay6_eq, expV_at, fieldV_at, k0_pay5_eq, field5V_at, k0_pay4_at,
    ← (scale_inv_eq _ (v_nonneg (by omega) (m := 128) (n := 16384) x i)).2]
  rfl

theorem tP_at (x : Vec Ideal S128x16384 .bf16) (a : Vec Ideal S16384x64 .bf16) (i : Fin 128) (j : Fin 64) : tP x a (ix2 i j) = mmAt (m := 128) (d := 16384) (n := 64) x a i j := by
  unfold tP mmAt
  pointwise [k0_pay2, k0_pay3]

/-! ## The second call -/

theorem k1_pay30_eq (v : Vec Ideal S1024x1 .f32) : k1_pay30 v = field5V (k1_pay29 v) := by
  unfold k1_pay30 field5V stepV
  rfl

theorem k1_pay33_eq (v : Vec Ideal S1024x1 .f32) : k1_pay33 (k1_pay29 v) (k1_pay30 v) (k1_pay31 v) (k1_pay32 v) = expV (fieldV (k1_pay29 v) (k1_pay30 v)) := by
  unfold k1_pay33 expV fieldV stepV k1_pay32 k1_pay31
  rfl

theorem fScale_eq (v : Vec Ideal S1024x1 .f32) : fScale v = scaleV (k1_pay33 (k1_pay29 v) (k1_pay30 v) (k1_pay31 v) (k1_pay32 v)) := by
  unfold fScale k1_pay34 scaleV
  rfl

theorem colc_at (v : FVec Ideal S1024x1 .f32) (j : S1024x1.Idx) : shapeCast S1024x1 v shapeCasts_S1024x1_S1024x1 j = v j := by
  pointwise

theorem fInv_eq (v : Vec Ideal S1024x1 .f32) : fInv v = shapeCast S1024x1 (invV (k1_pay33 (k1_pay29 v) (k1_pay30 v) (k1_pay31 v) (k1_pay32 v))) shapeCasts_S1024x1_S1024x1 := by
  unfold fInv k1_pay35 invV
  rfl

theorem k1_pay29_at (v : Vec Ideal S1024x1 .f32) (j : S1024x1.Idx) : k1_pay29 v j = v j * cq := rfl

theorem fScale_at (v : Vec Ideal S1024x1 .f32) (j : S1024x1.Idx) : fScale v j = kScale (v j * cq) := by
  rw [fScale_eq, scaleV_at, k1_pay33_eq, expV_at, fieldV_at, k1_pay30_eq, field5V_at, k1_pay29_at]
  rfl

theorem fInv_at (v : Vec Ideal S1024x1 .f32) (j : S1024x1.Idx) : fInv v j = kInv (v j * cq) := by
  rw [fInv_eq, colc_at, invV_at, k1_pay33_eq, expV_at, fieldV_at, k1_pay30_eq, field5V_at, k1_pay29_at]
  rfl

theorem hTile_at (x0 : Vec Ideal S1024x16384 .fp8e4m3) (x1 : Vec Ideal S1024x1 .f32) (x2 : Vec Ideal S1024x64 .bf16) (x3 : Vec Ideal S16384x256 .fp8e4m3) (x4 : Vec Ideal S1x256 .f32)
    (x5 : Vec Ideal S64x256 .bf16) (x6 : Vec Ideal S1024x256 .bf16) (i : Fin 1024) (j : Fin 256) :
    hTile x0 x1 x2 x3 x4 x5 x6 (ix2 i j) = hAt (m := 1024) (n := 256) (d := 16384) (r := 64) x0 x1 x2 x3 x4 x5 x6 i j := by
  pointwise [hTile, k1_pay36]
  rfl

theorem hSlot_at (x0 : Vec Ideal S1024x16384 .fp8e4m3) (x1 : Vec Ideal S1024x1 .f32) (x2 : Vec Ideal S1024x64 .bf16) (x3 : Vec Ideal S16384x256 .fp8e4m3) (x4 : Vec Ideal S1x256 .f32)
    (x5 : Vec Ideal S64x256 .bf16) (x6 : Vec Ideal S1024x256 .bf16) (z : Fin 1) (i : Fin 1024) (j : Fin 256) :
    hSlot x0 x1 x2 x3 x4 x5 x6 (ix3 z i j) = hTile x0 x1 x2 x3 x4 x5 x6 (ix2 i j) := by
  unfold hSlot hTile k1_pay37
  generalize k1_pay36 x0 x3 x1 x4 x2 x5 x6 = u
  pointwise

theorem red1_at (v : FVec Ideal S1024x256 .bf16) (i : Fin 1024) : multiReduction .maximumf [1] S1024 v 0xFF80#16 reduces_S1024x256_S1024 (.inr rfl) rfl (ix1 i) = Finset.univ.fold max (Ideal.ofBits .bf16 0xFF80#16) fun k : Fin 256 => v (ix2 i k) := by
  pointwise

theorem col1_at (v : FVec Ideal S1024 .bf16) (i : Fin 1024) (z : Fin 1) : shapeCast S1024x1 v shapeCasts_S1024_S1024x1 (ix2 i z) = v (ix1 i) := by
  pointwise

def bmax1 (u : FVec Ideal S1024x256 .bf16) : FVec Ideal S1024x1 .bf16 :=
  shapeCast S1024x1 (multiReduction .maximumf [1] S1024 (absf u) 0xFF80#16 reduces_S1024x256_S1024 (.inr rfl) rfl) shapeCasts_S1024_S1024x1

theorem bmax1_at (u : FVec Ideal S1024x256 .bf16) (i : Fin 1024) (z : Fin 1) : bmax1 u (ix2 i z) = amax (m := 1024) (n := 256) u i := by
  unfold bmax1 amax
  rw [col1_at, red1_at, hbot16]
  rfl

theorem extc_at (u : FVec Ideal S1024x1 .bf16) (j : S1024x1.Idx) : (extf .f32 u bitsLt_bf16_f32 : FVec Ideal S1024x1 .f32) j = u j := rfl

theorem hMax_eq (x0 : Vec Ideal S1024x16384 .fp8e4m3) (x1 : Vec Ideal S1024x1 .f32) (x2 : Vec Ideal S1024x64 .bf16) (x3 : Vec Ideal S16384x256 .fp8e4m3) (x4 : Vec Ideal S1x256 .f32)
    (x5 : Vec Ideal S64x256 .bf16) (x6 : Vec Ideal S1024x256 .bf16) : hMax x0 x1 x2 x3 x4 x5 x6 = extf .f32 (bmax1 (hTile x0 x1 x2 x3 x4 x5 x6)) bitsLt_bf16_f32 := by
  unfold hMax hTile k1_pay38 bmax1
  rfl

theorem hMax_at (x0 : Vec Ideal S1024x16384 .fp8e4m3) (x1 : Vec Ideal S1024x1 .f32) (x2 : Vec Ideal S1024x64 .bf16) (x3 : Vec Ideal S16384x256 .fp8e4m3) (x4 : Vec Ideal S1x256 .f32)
    (x5 : Vec Ideal S64x256 .bf16) (x6 : Vec Ideal S1024x256 .bf16) (i : Fin 1024) (z : Fin 1) :
    hMax x0 x1 x2 x3 x4 x5 x6 (ix2 i z) = amax (m := 1024) (n := 256) (hTile x0 x1 x2 x3 x4 x5 x6) i := by
  rw [hMax_eq, extc_at, bmax1_at]

theorem k1_pay1_at (v : FVec Ideal S1024x1 .f32) (j : S1024x1.Idx) : k1_pay1 v j = v j := by
  unfold k1_pay1
  exact colc_at v j

theorem k1_pay2_at (v : FVec Ideal S1024x1 .f32) (u : Vec Ideal S1024x1 .f32) (j : S1024x1.Idx) : k1_pay2 v u j = max (u j) (v j) := by
  unfold k1_pay2
  exact colc_at _ j

theorem k1_pay6_at (u : Vec Ideal S1x32x256 .bf16) (v : Vec Ideal S32x1 .f32) (i : Fin 32) (k : Fin 256) :
    k1_pay6 u v (ix2 i k) = quant (u (ix3 0 i k)) (v (ix2 i 0)) := by
  pointwise [k1_pay6]
  rfl

end Cert.KernelIdeal.Hand

end
-- ==== Proof.V.Ing.lean ====
/- What the first call leaves in its three output arrays. -/
module

public import proofs.«01_k».proof.Proof.V.KPay
public import Idealize.ShloMosaic.Lib.Pipeline.ValueKit

@[expose] public section

set_option maxRecDepth 16384

noncomputable section

namespace Cert.KernelIdeal.Hand

open Cert.KernelIdeal Cert.KernelIdeal.Gen Cert.Spec
open Idealize.ShloMosaic Idealize.ShloMosaic.TcCoe
open Idealize.ShloMosaic.Pipeline (Dat Cfg Window)

theorem e0_0 : ∀ t : Fin cfg0.N, win0_0.index t = ![t.val, 0] := (by decide +kernel : ∀ t : Fin grid0.N, _)
theorem e0_1 : ∀ t : Fin cfg0.N, win0_1.index t = ![0, 0] := (by decide +kernel : ∀ t : Fin grid0.N, _)
theorem e0_2 : ∀ t : Fin cfg0.N, win0_2.index t = ![t.val, 0] := (by decide +kernel : ∀ t : Fin grid0.N, _)
theorem e0_3 : ∀ t : Fin cfg0.N, win0_3.index t = ![t.val, 0] := (by decide +kernel : ∀ t : Fin grid0.N, _)
theorem e0_4 : ∀ t : Fin cfg0.N, win0_4.index t = ![t.val, 0] := (by decide +kernel : ∀ t : Fin grid0.N, _)

theorem out0_2_eq (x0 : Vec Ideal S128x16384 .bf16) (x1 : Vec Ideal S16384x64 .bf16) : out0_2 x0 x1 = codesP x0 := by
  unfold out0_2
  exact (View.canon_unit_zero (S := S128x16384) (by decide) _ _).trans (congrArg codesP (View.ld_unit_zero (S := S128x16384) (by decide) _ _))

theorem out0_3_eq (x0 : Vec Ideal S128x16384 .bf16) (x1 : Vec Ideal S16384x64 .bf16) : out0_3 x0 x1 = scaleP x0 := by
  unfold out0_3
  exact (View.canon_unit_zero (S := S128x1) (by decide) _ _).trans (congrArg scaleP (View.ld_unit_zero (S := S128x16384) (by decide) _ _))

theorem out0_4_eq (x0 : Vec Ideal S128x16384 .bf16) (x1 : Vec Ideal S16384x64 .bf16) : out0_4 x0 x1 = tP x0 x1 := by
  unfold out0_4
  exact (View.canon_unit_zero (S := S128x64) (by decide) _ _).trans (congrArg₂ tP (View.ld_unit_zero (S := S128x16384) (by decide) _ _) (View.ld_unit_zero (S := S16384x64) (by decide) _ _))

variable (c : Dev nD) (U : (b : Ref sig .tc) → Buf (Elt Ideal) ((c : Thread nD τ).loc b))

/-- Row `i` of block `t` is row `128 t + i` of the array. -/
theorem row0 (t : Fin cfg0.N) (i : Fin 128) : t.val * 128 + i.val < 1024 := by
  have : t.val < 8 := lt_of_lt_of_eq t.isLt (show cfg0.N = 8 from N_0)
  omega

set_option backward.isDefEq.respectTransparency false in
theorem iblk0_0 (t : Fin cfg0.N) (i : Fin 128) (k : Fin 16384) :
    iblk0 c U 0 t (ix2 i k) = (U (Pipeline.arrRef spec0 0) : A 1024 16384) (ix2 ⟨t.val * 128 + i.val, row0 t i⟩ k) := by
  blk_simp [iblk0]
  blk_ext [e0_0]

set_option backward.isDefEq.respectTransparency false in
theorem iblk0_1 (t : Fin cfg0.N) (k : Fin 16384) (j : Fin 64) :
    iblk0 c U 1 t (ix2 k j) = (U (Pipeline.arrRef spec0 1) : A 16384 64) (ix2 k j) := by
  blk_simp [iblk0]
  blk_ext [e0_1]

set_option backward.isDefEq.respectTransparency false in
theorem emb0_2 (t : Fin cfg0.N) (i : Fin 128) (k : Fin 16384) : ((win0_2.blk t).view.emb (ix2 i k) : (⟨2, ![1024, 16384]⟩ : Shape).Idx) = ix2 ⟨t.val * 128 + i.val, row0 t i⟩ k := by
  blk_ext [e0_2]

set_option backward.isDefEq.respectTransparency false in
theorem emb0_3 (t : Fin cfg0.N) (i : Fin 128) (k : Fin 1) : ((win0_3.blk t).view.emb (ix2 i k) : (⟨2, ![1024, 1]⟩ : Shape).Idx) = ix2 ⟨t.val * 128 + i.val, row0 t i⟩ k := by
  blk_ext [e0_3]

set_option backward.isDefEq.respectTransparency false in
theorem emb0_4 (t : Fin cfg0.N) (i : Fin 128) (k : Fin 64) : ((win0_4.blk t).view.emb (ix2 i k) : (⟨2, ![1024, 64]⟩ : Shape).Idx) = ix2 ⟨t.val * 128 + i.val, row0 t i⟩ k := by
  blk_ext [e0_4]

set_option backward.isDefEq.respectTransparency false in
/-- The codes. -/
theorem codes_arr : (dat0 c U).arrAt 2 cfg0.N = codes (m := 1024) (n := 16384) (U (Pipeline.arrRef spec0 0)) := by
  refine (dat0 c U).arrAt_eq_of_covers 2 (codes (m := 1024) (n := 16384) (U (Pipeline.arrRef spec0 0))) (by decide +kernel) fun t hf y => ?_
  blk_simp
  rw [after0_2, out0_2_eq]
  obtain ⟨i, k, rfl⟩ : ∃ (i : Fin 128) (k : Fin 16384), y = ix2 i k := ⟨y 0, y 1, eq_ix2 y⟩
  refine (codesP_at _ i k).trans ((codeAt_congr _ _ i ⟨t.val * 128 + i.val, row0 t i⟩ k fun k' => iblk0_0 c U t i k').trans ?_)
  exact (congrArg (codes (m := 1024) (n := 16384) (U (Pipeline.arrRef spec0 0))) (emb0_2 t i k)).symm

set_option backward.isDefEq.respectTransparency false in
/-- The scales. -/
theorem scales_arr : (dat0 c U).arrAt 3 cfg0.N = scales (m := 1024) (n := 16384) (U (Pipeline.arrRef spec0 0)) := by
  refine (dat0 c U).arrAt_eq_of_covers 3 (scales (m := 1024) (n := 16384) (U (Pipeline.arrRef spec0 0))) (by decide +kernel) fun t hf y => ?_
  blk_simp
  rw [after0_3, out0_3_eq]
  obtain ⟨i, k, rfl⟩ : ∃ (i : Fin 128) (k : Fin 1), y = ix2 i k := ⟨y 0, y 1, eq_ix2 y⟩
  refine (scaleP_at _ i k).trans ((scaleAt_congr _ _ i ⟨t.val * 128 + i.val, row0 t i⟩ fun k' => iblk0_0 c U t i k').trans ?_)
  exact (congrArg (scales (m := 1024) (n := 16384) (U (Pipeline.arrRef spec0 0))) (emb0_3 t i k)).symm

set_option backward.isDefEq.respectTransparency false in
/-- The product with `lora_a`. -/
theorem t_arr : (dat0 c U).arrAt 4 cfg0.N = mm (m := 1024) (d := 16384) (n := 64) (U (Pipeline.arrRef spec0 0)) (U (Pipeline.arrRef spec0 1)) := by
  refine (dat0 c U).arrAt_eq_of_covers 4 (mm (m := 1024) (d := 16384) (n := 64) (U (Pipeline.arrRef spec0 0)) (U (Pipeline.arrRef spec0 1))) (by decide +kernel) fun t hf y => ?_
  blk_simp
  rw [after0_4, out0_4_eq]
  obtain ⟨i, k, rfl⟩ : ∃ (i : Fin 128) (k : Fin 64), y = ix2 i k := ⟨y 0, y 1, eq_ix2 y⟩
  refine (tP_at _ _ i k).trans ((mmAt_congr _ _ _ _ i ⟨t.val * 128 + i.val, row0 t i⟩ k k (fun k' => iblk0_0 c U t i k') (fun k' => iblk0_1 c U t k' k)).trans ?_)
  exact (congrArg (mm (m := 1024) (d := 16384) (n := 64) (U (Pipeline.arrRef spec0 0)) (U (Pipeline.arrRef spec0 1))) (emb0_4 t i k)).symm

end Cert.KernelIdeal.Hand

end
-- ==== Proof.V.Proj.lean ====
/- What the second call leaves in its three output arrays. -/
module

public import proofs.«01_k».proof.Proof.V.KPay
public import Idealize.ShloMosaic.Lib.Pipeline.ValueKit

@[expose] public section

set_option maxRecDepth 16384

noncomputable section

namespace Cert.KernelIdeal.Hand

open Cert.KernelIdeal Cert.KernelIdeal.Gen Cert.Spec
open Idealize.ShloMosaic Idealize.ShloMosaic.TcCoe
open Idealize.ShloMosaic.Pipeline (Dat Cfg Window)

theorem e1_0 : ∀ t : Fin cfg1.N, win1_0.index t = ![0, 0] := (by decide +kernel : ∀ t : Fin grid1.N, _)
theorem e1_1 : ∀ t : Fin cfg1.N, win1_1.index t = ![0, 0] := (by decide +kernel : ∀ t : Fin grid1.N, _)
theorem e1_2 : ∀ t : Fin cfg1.N, win1_2.index t = ![0, 0] := (by decide +kernel : ∀ t : Fin grid1.N, _)
theorem e1_3 : ∀ t : Fin cfg1.N, win1_3.index t = ![0, t.val] := (by decide +kernel : ∀ t : Fin grid1.N, _)
theorem e1_4 : ∀ t : Fin cfg1.N, win1_4.index t = ![0, t.val] := (by decide +kernel : ∀ t : Fin grid1.N, _)
theorem e1_5 : ∀ t : Fin cfg1.N, win1_5.index t = ![0, t.val] := (by decide +kernel : ∀ t : Fin grid1.N, _)
theorem e1_6 : ∀ t : Fin cfg1.N, win1_6.index t = ![0, t.val] := (by decide +kernel : ∀ t : Fin grid1.N, _)
theorem e1_7 : ∀ t : Fin cfg1.N, win1_7.index t = ![0, t.val] := (by decide +kernel : ∀ t : Fin grid1.N, _)

variable (c : Dev nD) (U : (b : Ref sig .tc) → Buf (Elt Ideal) ((c : Thread nD τ).loc b))

/-- Column `j` of tile `t` is column `256 t + j` of the array. -/
theorem col (t : Fin cfg1.N) (j : Fin 256) : t.val * 256 + j.val < 5376 := by
  have : t.val < 21 := lt_of_lt_of_eq t.isLt (show cfg1.N = 21 from N_1)
  omega

set_option backward.isDefEq.respectTransparency false in
theorem iblk1_0 (t : Fin cfg1.N) (i : Fin 1024) (k : Fin 16384) :
    iblk1 c U 0 t (ix2 i k) = (U (Pipeline.arrRef spec1 0) : A 1024 16384) (ix2 i k) := by
  blk_simp [iblk1]
  blk_ext [e1_0]

set_option backward.isDefEq.respectTransparency false in
theorem iblk1_1 (t : Fin cfg1.N) (i : Fin 1024) (k : Fin 1) :
    iblk1 c U 1 t (ix2 i k) = (U (Pipeline.arrRef spec1 1) : A 1024 1) (ix2 i k) := by
  blk_simp [iblk1]
  blk_ext [e1_1]

set_option backward.isDefEq.respectTransparency false in
theorem iblk1_2 (t : Fin cfg1.N) (i : Fin 1024) (k : Fin 64) :
    iblk1 c U 2 t (ix2 i k) = (U (Pipeline.arrRef spec1 2) : A 1024 64) (ix2 i k) := by
  blk_simp [iblk1]
  blk_ext [e1_2]

set_option backward.isDefEq.respectTransparency false in
theorem iblk1_3 (t : Fin cfg1.N) (i : Fin 16384) (j : Fin 256) :
    iblk1 c U 3 t (ix2 i j) = (U (Pipeline.arrRef spec1 3) : A 16384 5376) (ix2 i ⟨t.val * 256 + j.val, col t j⟩) := by
  blk_simp [iblk1]
  blk_ext [e1_3]

set_option backward.isDefEq.respectTransparency false in
theorem iblk1_4 (t : Fin cfg1.N) (i : Fin 1) (j : Fin 256) :
    iblk1 c U 4 t (ix2 i j) = (U (Pipeline.arrRef spec1 4) : A 1 5376) (ix2 i ⟨t.val * 256 + j.val, col t j⟩) := by
  blk_simp [iblk1]
  blk_ext [e1_4]

set_option backward.isDefEq.respectTransparency false in
theorem iblk1_5 (t : Fin cfg1.N) (i : Fin 64) (j : Fin 256) :
    iblk1 c U 5 t (ix2 i j) = (U (Pipeline.arrRef spec1 5) : A 64 5376) (ix2 i ⟨t.val * 256 + j.val, col t j⟩) := by
  blk_simp [iblk1]
  blk_ext [e1_5]

set_option backward.isDefEq.respectTransparency false in
theorem iblk1_6 (t : Fin cfg1.N) (i : Fin 1024) (j : Fin 256) :
    iblk1 c U 6 t (ix2 i j) = (U (Pipeline.arrRef spec1 6) : A 1024 5376) (ix2 i ⟨t.val * 256 + j.val, col t j⟩) := by
  blk_simp [iblk1]
  blk_ext [e1_6]

set_option backward.isDefEq.respectTransparency false in
theorem emb1_7 (t : Fin cfg1.N) (i : Fin 1024) (j : Fin 256) : ((win1_7.blk t).view.emb (ix2 i j) : (⟨2, ![1024, 5376]⟩ : Shape).Idx) = ix2 i ⟨t.val * 256 + j.val, col t j⟩ := by
  blk_ext [e1_7]

/-- The whole of the hidden rows, from what the call finds in its input arrays. -/
def hh : A 1024 5376 :=
  hOf (m := 1024) (n := 5376) (d := 16384) (r := 64) (U (Pipeline.arrRef spec1 0)) (U (Pipeline.arrRef spec1 1)) (U (Pipeline.arrRef spec1 2)) (U (Pipeline.arrRef spec1 3))
    (U (Pipeline.arrRef spec1 4)) (U (Pipeline.arrRef spec1 5)) (U (Pipeline.arrRef spec1 6))

/-- A tile is its columns of the whole. -/
theorem tileAt_at (t : Fin cfg1.N) (i : Fin 1024) (j : Fin 256) : tileAt c U t (ix2 i j) = hh c U (ix2 i ⟨t.val * 256 + j.val, col t j⟩) := by
  unfold tileAt
  refine (hTile_at _ _ _ _ _ _ _ i j).trans ?_
  exact hAt_congr _ _ _ _ _ _ _ _ _ _ _ _ _ _ i j i ⟨t.val * 256 + j.val, col t j⟩ (fun k => iblk1_0 c U t i k) (iblk1_1 c U t i 0) (fun k => iblk1_2 c U t i k)
    (fun k => iblk1_3 c U t k j) (iblk1_4 c U t 0 j) (fun k => iblk1_5 c U t k j) (iblk1_6 c U t i j)

theorem maxAt_le (t : Fin cfg1.N) (i : Fin 1024) (z : Fin 1) (b : EReal) :
    maxAt c U t (ix2 i z) ≤ b ↔ ∀ j : Fin 256, max (hh c U (ix2 i ⟨t.val * 256 + j.val, col t j⟩)) (-(hh c U (ix2 i ⟨t.val * 256 + j.val, col t j⟩))) ≤ b := by
  unfold maxAt
  rw [hMax_at, amax_le]
  refine forall_congr' fun j => ?_
  rw [← tileAt_at c U t i j]
  rfl

/-- The running maximum bounds the tiles so far, and is the least such bound. -/
theorem rmax_le (i : Fin 1024) (z : Fin 1) (b : EReal) : ∀ (n : ℕ) (hn : n < cfg1.N), rmax c U n hn (ix2 i z) ≤ b ↔ ∀ t : Fin cfg1.N, t.val ≤ n → maxAt c U t (ix2 i z) ≤ b
  | 0, hn => by
    unfold rmax
    rw [k1_pay1_at]
    constructor
    · intro h t ht
      have : t = ⟨0, hn⟩ := Fin.ext (Nat.le_zero.mp ht)
      rw [this]; exact h
    · intro h; exact h ⟨0, hn⟩ (Nat.le_refl 0)
  | n + 1, hn => by
    unfold rmax
    rw [k1_pay2_at, max_le_iff, rmax_le i z b n _]
    constructor
    · rintro ⟨h, h'⟩ t ht
      by_cases e : t.val = n + 1
      · have : t = ⟨n + 1, hn⟩ := Fin.ext e
        rw [this]; exact h'
      · exact h t (by omega)
    · intro h
      exact ⟨fun t ht => h t (by omega), h ⟨n + 1, hn⟩ (Nat.le_refl _)⟩

/-- After the last tile it is the row's greatest absolute value. -/
theorem rmax_last (i : Fin 1024) (z : Fin 1) : rmax c U 20 h20 (ix2 i z) = amax (hh c U) i := by
  refine eq_of_forall_ge_iff fun b => ?_
  rw [rmax_le, amax_le]
  constructor
  · intro h k
    have hk : k.val / 256 < cfg1.N := lt_of_lt_of_eq (show k.val / 256 < 21 by have := k.isLt; omega) N_1.symm
    have := (maxAt_le c U ⟨k.val / 256, hk⟩ i z b).mp (h _ (show k.val / 256 ≤ 20 by have := k.isLt; omega)) ⟨k.val % 256, Nat.mod_lt _ (by omega)⟩
    have e : (⟨k.val / 256 * 256 + k.val % 256, col ⟨k.val / 256, hk⟩ ⟨k.val % 256, Nat.mod_lt _ (by omega)⟩⟩ : Fin 5376) = k := Fin.ext (by show k.val / 256 * 256 + k.val % 256 = k.val; omega)
    dsimp only at this
    rw [e] at this
    exact this
  · intro h t _
    exact (maxAt_le c U t i z b).mpr fun j => h _

theorem finScale_at (i : Fin 1024) (z : Fin 1) : finScale c U (ix2 i z) = scaleAt (hh c U) i := by
  unfold finScale scaleAt
  rw [fScale_at, rmax_last, (scale_inv_eq _ (v_nonneg (by omega) (hh c U) i)).1]

theorem finInv_at (i : Fin 1024) (z : Fin 1) : finInv c U (ix2 i z) = rInv (scaleAt (hh c U) i) := by
  unfold finInv scaleAt
  rw [fInv_at, rmax_last, (scale_inv_eq _ (v_nonneg (by omega) (hh c U) i)).2]

theorem tab_at (q : Fin 21) (i : Fin 1024) (j : Fin 256) : tab c U (ix3 q i j) = tileAt c U ⟨q.val, lt_of_lt_of_eq q.isLt (show 21 = cfg1.N from N_1.symm)⟩ (ix2 i j) := by
  unfold tab slotAt tileAt
  refine Eq.trans ?_ (hSlot_at _ _ _ _ _ _ _ 0 i j)
  refine congrArg _ (funext fun a => ?_)
  match a with
  | ⟨0, _⟩ => rfl
  | ⟨1, _⟩ => rfl
  | ⟨2, _⟩ => rfl

theorem dBlk_at (d : Vec Ideal S21x1024x256 .bf16) (q k : ℕ) (hq : q < 21) (hk : k < 32) (z : Fin 1) (i : Fin 32) (j : Fin 256) :
    dBlk d q k hq hk (ix3 z i j) = d (ix3 ⟨q, hq⟩ ⟨32 * k + i.val, by omega⟩ j) := by
  unfold dBlk
  refine congrArg d (funext fun a => Fin.ext ?_)
  match a with
  | ⟨0, _⟩ => show q + 1 * z.val = q; omega
  | ⟨1, _⟩ => show 32 * k + 1 * i.val = 32 * k + i.val; omega
  | ⟨2, _⟩ => show 0 + 1 * j.val = j.val; omega

theorem vBlk_at (v : Vec Ideal S1024x1 .f32) (k : ℕ) (hk : k < 32) (i : Fin 32) (z : Fin 1) :
    vBlk v k hk (ix2 i z) = v (ix2 ⟨32 * k + i.val, by omega⟩ 0) := by
  unfold vBlk
  refine congrArg v (funext fun a => Fin.ext ?_)
  match a with
  | ⟨0, _⟩ => show 32 * k + 1 * i.val = 32 * k + i.val; omega
  | ⟨1, _⟩ => show 0 + 1 * z.val = 0; omega

theorem finCodes_at (i : Fin 1024) (k : Fin 5376) : finCodes c U (ix2 i k) = codeAt (hh c U) i k := by
  unfold finCodes
  have hi := i.isLt
  have hk := k.isLt
  have e1 : (⟨32 * (i.val / 32) + i.val % 32, by omega⟩ : Fin 1024) = i := Fin.ext (by show 32 * (i.val / 32) + i.val % 32 = i.val; omega)
  rw [codesOut_blk (tab c U) (finInv c U) (k.val / 256) (i.val / 32) (by omega) (by omega) (ix2 i k)
    (ix2 ⟨i.val % 32, Nat.mod_lt _ (by omega)⟩ ⟨k.val % 256, Nat.mod_lt _ (by omega)⟩)
    (by show i.val = 32 * (i.val / 32) + i.val % 32; omega) (by show k.val = 256 * (k.val / 256) + k.val % 256; omega),
    k1_pay6_at, dBlk_at, vBlk_at]
  dsimp only
  rw [e1, finInv_at, tab_at, tileAt_at]
  have e2 : ∀ h, (⟨k.val / 256 * 256 + k.val % 256, h⟩ : Fin 5376) = k := fun _ => Fin.ext (by show k.val / 256 * 256 + k.val % 256 = k.val; omega)
  dsimp only
  rw [e2]
  rfl

set_option backward.isDefEq.respectTransparency false in
/-- The hidden rows. -/
theorem h_arr : (dat1 c U).arrAt 7 cfg1.N = hh c U := by
  refine (dat1 c U).arrAt_eq_of_covers 7 (hh c U) (by decide +kernel) fun t hf y => ?_
  blk_simp
  rw [after1_7]
  obtain ⟨i, k, rfl⟩ : ∃ (i : Fin 1024) (k : Fin 256), y = ix2 i k := ⟨y 0, y 1, eq_ix2 y⟩
  refine (tileAt_at c U t i k).trans ?_
  exact (congrArg (hh c U) (emb1_7 t i k)).symm

set_option backward.isDefEq.respectTransparency false in
/-- Their codes. -/
theorem hcodes_arr : (dat1 c U).arrAt 8 cfg1.N = codes (m := 1024) (n := 5376) (hh c U) := by
  refine (dat1 c U).arrAt_eq_of_after_last 8 ⟨20, h20⟩ (by decide +kernel) (codes (m := 1024) (n := 5376) (hh c U)) fun j => ?_
  rw [after1_8]
  obtain ⟨i, k, rfl⟩ : ∃ (i : Fin 1024) (k : Fin 5376), j = ix2 i k := ⟨j 0, j 1, eq_ix2 j⟩
  exact finCodes_at c U i k

set_option backward.isDefEq.respectTransparency false in
/-- Their scales. -/
theorem hscales_arr : (dat1 c U).arrAt 9 cfg1.N = scales (m := 1024) (n := 5376) (hh c U) := by
  refine (dat1 c U).arrAt_eq_of_after_last 9 ⟨20, h20⟩ (by decide +kernel) (scales (m := 1024) (n := 5376) (hh c U)) fun j => ?_
  rw [after1_9]
  obtain ⟨i, k, rfl⟩ : ∃ (i : Fin 1024) (k : Fin 1), j = ix2 i k := ⟨j 0, j 1, eq_ix2 j⟩
  exact finScale_at c U i k

end Cert.KernelIdeal.Hand

end
-- ==== Proof.V.KerHost.lean ====
/- The kernel's five results as functions of its arguments. -/
module

public import proofs.«01_k».proof.Proof.V.Outs
public import proofs.«01_k».proof.Proof.V.Ing
public import proofs.«01_k».proof.Proof.V.Proj
public import proofs.«01_k».proof.Proof.KI.Run

@[expose] public section

set_option maxRecDepth 16384

noncomputable section

namespace Cert.KernelIdeal.Hand

open Cert.KernelIdeal Cert.KernelIdeal.Gen Cert.Spec
open Idealize.ShloMosaic Idealize.ShloMosaic.TcCoe Idealize.SL.Sem

variable (m : (ℓ : Loc nD τ sig) → Buf (Elt Ideal) ℓ) (c : Dev nD)

/-! ## The arrays the calls find -/

theorem V1_v0 : V1 m c main_v0 = inX (m ((c : Thread nD τ).loc main_arg0)) := by
  show StableHlo.after hostOps0 (V0 m c) (Proc.devRef .tc main_v0) = _
  simp only [StableHlo.after_cons, StableHlo.after_nil]
  rw [StableHlo.reshape_result_ne _ _ _ _ _ _ _ (by decide), StableHlo.reshape_result]
  rfl

theorem V1_v1 : V1 m c main_v1 = inR (m ((c : Thread nD τ).loc main_arg1)) := by
  show StableHlo.after hostOps0 (V0 m c) (Proc.devRef .tc main_v1) = _
  simp only [StableHlo.after_cons, StableHlo.after_nil]
  rw [StableHlo.reshape_result, StableHlo.reshape_result_ne _ _ _ _ _ _ _ (by decide)]
  rfl

theorem V3_v3 (outs : Outs (F := Ideal)) : V3 m outs c main_v3 = inS (m ((c : Thread nD τ).loc main_arg3)) := by
  have e : V2 m outs c main_arg3 = m ((c : Thread nD τ).loc main_arg3) :=
    (V2_of m outs c main_arg3 (by decide)).trans ((V1_of m c main_arg3 (by decide)).trans rfl)
  show StableHlo.after hostOps1 (V2 m outs c) (Proc.devRef .tc main_v3) = _
  simp only [StableHlo.after_cons, StableHlo.after_nil]
  rw [StableHlo.reshape_result]
  exact congrArg inS e

/-- The hidden rows of the launch arguments. -/
def hidM : A 1024 5376 :=
  hidden (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem V1_a4 : V1 m c main_arg4 = m ((c : Thread nD τ).loc main_arg4) := (V1_of m c main_arg4 (by decide)).trans rfl

/-- What the first call leaves. -/
theorem c0 : (dat0 c (U0 m c)).arrAt 2 cfg0.N = codes (inX (m ((c : Thread nD τ).loc main_arg0))) :=
  (codes_arr c (U0 m c)).trans (congrArg (codes (m := 1024) (n := 16384)) (V1_v0 m c))
theorem s0 : (dat0 c (U0 m c)).arrAt 3 cfg0.N = scales (inX (m ((c : Thread nD τ).loc main_arg0))) :=
  (scales_arr c (U0 m c)).trans (congrArg (scales (m := 1024) (n := 16384)) (V1_v0 m c))
theorem t0 : (dat0 c (U0 m c)).arrAt 4 cfg0.N = mm (inX (m ((c : Thread nD τ).loc main_arg0))) (m ((c : Thread nD τ).loc main_arg4)) :=
  (t_arr c (U0 m c)).trans (congrArg₂ (mm (m := 1024) (d := 16384) (n := 64)) (V1_v0 m c) (V1_a4 m c))

/-- What the second call finds. -/
theorem U1_v2_0 : U1 m c main_v2_0 = codes (inX (m ((c : Thread nD τ).loc main_arg0))) :=
  (V3_of m _ c main_v2_0 (by decide)).trans ((V2_v2_0 m c).trans (c0 m c))
theorem U1_v2_1 : U1 m c main_v2_1 = scales (inX (m ((c : Thread nD τ).loc main_arg0))) :=
  (V3_of m _ c main_v2_1 (by decide)).trans ((V2_v2_1 m c).trans (s0 m c))
theorem U1_v2_2 : U1 m c main_v2_2 = mm (inX (m ((c : Thread nD τ).loc main_arg0))) (m ((c : Thread nD τ).loc main_arg4)) :=
  (V3_of m _ c main_v2_2 (by decide)).trans ((V2_v2_2 m c).trans (t0 m c))
theorem U1_a2 : U1 m c main_arg2 = m ((c : Thread nD τ).loc main_arg2) :=
  (V3_of m _ c main_arg2 (by decide)).trans ((V2_of m _ c main_arg2 (by decide)).trans ((V1_of m c main_arg2 (by decide)).trans rfl))
theorem U1_a5 : U1 m c main_arg5 = m ((c : Thread nD τ).loc main_arg5) :=
  (V3_of m _ c main_arg5 (by decide)).trans ((V2_of m _ c main_arg5 (by decide)).trans ((V1_of m c main_arg5 (by decide)).trans rfl))
theorem U1_v1 : U1 m c main_v1 = inR (m ((c : Thread nD τ).loc main_arg1)) :=
  (V3_of m _ c main_v1 (by decide)).trans ((V2_of m _ c main_v1 (by decide)).trans (V1_v1 m c))

theorem hOf_congr (xc xc' : A 1024 16384) (xs xs' : A 1024 1) (t t' : A 1024 64) (w w' : A 16384 5376) (ws ws' : A 1 5376) (b b' : A 64 5376)
    (res res' : A 1024 5376) (h0 : xc = xc') (h1 : xs = xs') (h2 : t = t') (h3 : w = w') (h4 : ws = ws') (h5 : b = b') (h6 : res = res') :
    hOf xc xs t w ws b res = hOf xc' xs' t' w' ws' b' res' := by
  subst h0 h1 h2 h3 h4 h5 h6
  rfl

theorem hh_eq : hh c (U1 m c) = hidM m c :=
  hOf_congr _ _ _ _ _ _ _ _ _ _ _ _ _ _ (U1_v2_0 m c) (U1_v2_1 m c) (U1_v2_2 m c) (U1_a2 m c) (V3_v3 m c _) (U1_a5 m c) (U1_v1 m c)

/-! ## The results -/

theorem v4_0 : V4 m (outsK m) c main_v4_0 = hidM m c := (V4_v4_0 m c).trans ((h_arr c (U1 m c)).trans (hh_eq m c))
theorem v4_1 : V4 m (outsK m) c main_v4_1 = codes (hidM m c) :=
  (V4_v4_1 m c).trans ((hcodes_arr c (U1 m c)).trans (congrArg (codes (m := 1024) (n := 5376)) (hh_eq m c)))
theorem v4_2 : V4 m (outsK m) c main_v4_2 = scales (hidM m c) :=
  (V4_v4_2 m c).trans ((hscales_arr c (U1 m c)).trans (congrArg (scales (m := 1024) (n := 5376)) (hh_eq m c)))
theorem v2_0 : V4 m (outsK m) c main_v2_0 = codes (inX (m ((c : Thread nD τ).loc main_arg0))) :=
  (V4_of m _ c main_v2_0 (by decide)).trans ((V3_of m _ c main_v2_0 (by decide)).trans ((V2_v2_0 m c).trans (c0 m c)))
theorem v2_1 : V4 m (outsK m) c main_v2_1 = scales (inX (m ((c : Thread nD τ).loc main_arg0))) :=
  (V4_of m _ c main_v2_1 (by decide)).trans ((V3_of m _ c main_v2_1 (by decide)).trans ((V2_v2_1 m c).trans (s0 m c)))

theorem V5_main_v5 : V5 m (outsK m) c main_v5 = outH (hidM m c) := by
  show StableHlo.after hostOps2 (V4 m (outsK m) c) (Proc.devRef .tc main_v5) = _
  simp only [StableHlo.after_cons, StableHlo.after_nil]
  rw [StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result]
  exact congrArg outH (v4_0 m c)

theorem V5_main_v6 : V5 m (outsK m) c main_v6 = outC (codes (inX (m ((c : Thread nD τ).loc main_arg0)))) := by
  show StableHlo.after hostOps2 (V4 m (outsK m) c) (Proc.devRef .tc main_v6) = _
  simp only [StableHlo.after_cons, StableHlo.after_nil]
  rw [StableHlo.reshape_result_ne _ _ _ _ _ _ _ (by decide), StableHlo.reshape_result_ne _ _ _ _ _ _ _ (by decide), StableHlo.reshape_result_ne _ _ _ _ _ _ _ (by decide), StableHlo.reshape_result, StableHlo.reshape_result_ne _ _ _ _ _ _ _ (by decide)]
  exact congrArg outC (v2_0 m c)

theorem V5_main_v7 : V5 m (outsK m) c main_v7 = outS (scales (inX (m ((c : Thread nD τ).loc main_arg0)))) := by
  show StableHlo.after hostOps2 (V4 m (outsK m) c) (Proc.devRef .tc main_v7) = _
  simp only [StableHlo.after_cons, StableHlo.after_nil]
  rw [StableHlo.reshape_result_ne _ _ _ _ _ _ _ (by decide), StableHlo.reshape_result_ne _ _ _ _ _ _ _ (by decide), StableHlo.reshape_result, StableHlo.reshape_result_ne _ _ _ _ _ _ _ (by decide), StableHlo.reshape_result_ne _ _ _ _ _ _ _ (by decide)]
  exact congrArg outS (v2_1 m c)

theorem V5_main_v8 : V5 m (outsK m) c main_v8 = outH (codes (hidM m c)) := by
  show StableHlo.after hostOps2 (V4 m (outsK m) c) (Proc.devRef .tc main_v8) = _
  simp only [StableHlo.after_cons, StableHlo.after_nil]
  rw [StableHlo.reshape_result_ne _ _ _ _ _ _ _ (by decide), StableHlo.reshape_result, StableHlo.reshape_result_ne _ _ _ _ _ _ _ (by decide), StableHlo.reshape_result_ne _ _ _ _ _ _ _ (by decide), StableHlo.reshape_result_ne _ _ _ _ _ _ _ (by decide)]
  exact congrArg outH (v4_1 m c)

theorem V5_main_v9 : V5 m (outsK m) c main_v9 = outS (scales (hidM m c)) := by
  show StableHlo.after hostOps2 (V4 m (outsK m) c) (Proc.devRef .tc main_v9) = _
  simp only [StableHlo.after_cons, StableHlo.after_nil]
  rw [StableHlo.reshape_result, StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide)]
  exact congrArg outS (v4_2 m c)

/-- Every run ends with the five results as stated and the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v5) = outH (hidM m c)
      ∧ r.2.mem ((c.tc : Thread nD τ).loc main_v6) = outC (codes (inX (m ((c.tc : Thread nD τ).loc main_arg0))))
      ∧ r.2.mem ((c.tc : Thread nD τ).loc main_v7) = outS (scales (inX (m ((c.tc : Thread nD τ).loc main_arg0))))
      ∧ r.2.mem ((c.tc : Thread nD τ).loc main_v8) = outH (codes (hidM m c))
      ∧ r.2.mem ((c.tc : Thread nD τ).loc main_v9) = outS (scales (hidM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c (Proc.devRef .tc main_v5) (mem_uc main_v5 (by decide))).trans (V5_main_v5 m c),
    (h.1 c (Proc.devRef .tc main_v6) (mem_uc main_v6 (by decide))).trans (V5_main_v6 m c),
    (h.1 c (Proc.devRef .tc main_v7) (mem_uc main_v7 (by decide))).trans (V5_main_v7 m c),
    (h.1 c (Proc.devRef .tc main_v8) (mem_uc main_v8 (by decide))).trans (V5_main_v8 m c),
    (h.1 c (Proc.devRef .tc main_v9) (mem_uc main_v9 (by decide))).trans (V5_main_v9 m c),
    (h.1 c (Proc.devRef .tc main_arg0) (mem_uc main_arg0 (by decide))).trans (V5_main_arg0 m (outsK m) c),
    (h.1 c (Proc.devRef .tc main_arg1) (mem_uc main_arg1 (by decide))).trans (V5_main_arg1 m (outsK m) c),
    (h.1 c (Proc.devRef .tc main_arg2) (mem_uc main_arg2 (by decide))).trans (V5_main_arg2 m (outsK m) c),
    (h.1 c (Proc.devRef .tc main_arg3) (mem_uc main_arg3 (by decide))).trans (V5_main_arg3 m (outsK m) c),
    (h.1 c (Proc.devRef .tc main_arg4) (mem_uc main_arg4 (by decide))).trans (V5_main_arg4 m (outsK m) c),
    (h.1 c (Proc.devRef .tc main_arg5) (mem_uc main_arg5 (by decide))).trans (V5_main_arg5 m (outsK m) c)⟩) (run_all m ρ)

end Cert.KernelIdeal.Hand

end
-- ==== Proof.V.Ref.lean ====
/- The reference's values, entry by entry. -/
module

public import proofs.«01_k».proof.Proof.V.Spec
public import proofs.«01_k».proof.Proof.Gen.ReferenceIdeal.Skeleton

@[expose] public section

set_option maxRecDepth 16384

noncomputable section

namespace Cert.ReferenceIdeal.Hand

open Cert.ReferenceIdeal Cert.ReferenceIdeal.Gen Cert.Spec
open Idealize.ShloMosaic

theorem hbot : Ideal.ofBits .f32 0xFF800000#32 = ⊥ := by simp [Ideal.ofBits, Ideal.ieee]
theorem htop : Ideal.ofBits .f32 0x7F800000#32 = ⊤ := by simp [Ideal.ofBits, Ideal.ieee]

theorem minRed_at (v : FVec Ideal S1024x253 .f32) (i : Fin 1024) : multiReduction .minimumf [1] S1024 v 0x7F800000#32 reduces_S1024x253_S1024 (.inl rfl) rfl (ix1 i) = Finset.univ.fold min (Ideal.ofBits .f32 0x7F800000#32) fun k : Fin 253 => v (ix2 i k) := by
  pointwise

theorem col_at (v : FVec Ideal S1024 .f32) (i : Fin 1024) (z : Fin 1) : shapeCast S1024x1 v shapeCasts_S1024_S1024x1 (ix2 i z) = v (ix1 i) := by
  pointwise

theorem pow_at (k : Fin 253) (z : Fin 1) : exp2 (subf (sitofp .f32 (iota .tc S1x253 32 [1] iota_S1x253_d1_w32) : FVec Ideal S1x253 .f32) (broadcast S1x253 (Scalar.ofBits .f32 0x42FA0000#32))) (ix2 z k) = pw k.val := by
  pointwise
  rfl

theorem bc_at (v : FVec Ideal S1024x1 .f32) (i : Fin 1024) (k : Fin 253) : broadcastTo S1024x253 v broadcasts_S1024x1_S1024x253 (ix2 i k) = v (ix2 i 0) := by
  pointwise

theorem bcr_at (v : FVec Ideal S1x253 .f32) (i : Fin 1024) (k : Fin 253) : broadcastTo S1024x253 v broadcasts_S1x253_S1024x253 (ix2 i k) = v (ix2 0 k) := by
  pointwise

theorem cast_at (v : FVec Ideal S1x253 .f32) (j : S1x253.Idx) : shapeCast S1x253 v shapeCasts_S1x253_S1x253 j = v j := by
  pointwise

theorem hone : Ideal.ofBits .f32 0x3F800000#32 = 1 := by
  pointwise

/-- The scale of a column of maxima. -/
theorem pay8_at (v : FVec Ideal S1024x1 .f32) (c : Ideal .f32) (i : Fin 1024) (z : Fin 1) : k0_pay8 v c (ix2 i z) = rScale (v (ix2 i z) * c) := by
  unfold k0_pay8 rScale
  dsimp only
  show Scalar.select (IntOp.ori (Ideal.cmp .olt (v (ix2 i z) * c) (Ideal.ofBits .f32 0x00800000#32)) (Ideal.cmp .oeq (v (ix2 i z) * c) (Ideal.ofBits .f32 0x7F800000#32))) (Ideal.ofBits .f32 0x3F800000#32) (shapeCast S1024x1 _ _ (ix2 i z)) = _
  rw [col_at, minRed_at, htop, hone]
  congr 1
  unfold above
  refine Finset.fold_congr fun k _ => ?_
  have e : v (ix2 i z) = v (ix2 i 0) := by rw [Subsingleton.elim z 0]
  rw [e]
  show Scalar.select (Ideal.cmp .olt (broadcastTo S1024x253 _ broadcasts_S1024x1_S1024x253 (ix2 i k)) (broadcastTo S1024x253 _ broadcasts_S1x253_S1024x253 (ix2 i k))) (broadcastTo S1024x253 _ broadcasts_S1x253_S1024x253 (ix2 i k)) (Ideal.ofBits .f32 0x7F800000#32) = _
  rw [bc_at, bcr_at, bcr_at, cast_at, htop]
  erw [pow_at]
  rfl

theorem maxRed_at (v : FVec Ideal S1024x16384 .f32) (i : Fin 1024) : multiReduction .maximumf [1] S1024 v 0xFF800000#32 reduces_S1024x16384_S1024 (.inl rfl) rfl (ix1 i) = Finset.univ.fold max (Ideal.ofBits .f32 0xFF800000#32) fun k : Fin 16384 => v (ix2 i k) := by
  pointwise

theorem maxRedH_at (v : FVec Ideal S1024x5376 .f32) (i : Fin 1024) : multiReduction .maximumf [1] S1024 v 0xFF800000#32 reduces_S1024x5376_S1024 (.inl rfl) rfl (ix1 i) = Finset.univ.fold max (Ideal.ofBits .f32 0xFF800000#32) fun k : Fin 5376 => v (ix2 i k) := by
  pointwise

theorem pay1_at (x : Vec Ideal S1024x16384 .bf16) (j : S1024x16384.Idx) : k0_pay1 x j = x j := by
  pointwise [k0_pay1]

/-- The column of the rows' greatest absolute values. -/
def xmax (x : Vec Ideal S1024x16384 .bf16) : FVec Ideal S1024x1 .f32 :=
  shapeCast S1024x1 (multiReduction .maximumf [1] S1024 (absf (k0_pay1 x)) 0xFF800000#32 reduces_S1024x16384_S1024 (.inl rfl) rfl) shapeCasts_S1024_S1024x1

theorem xmax_at (x : Vec Ideal S1024x16384 .bf16) (i : Fin 1024) (z : Fin 1) : xmax x (ix2 i z) = amax (m := 1024) (n := 16384) x i := by
  unfold xmax amax
  rw [col_at, maxRed_at, hbot]
  refine Finset.fold_congr fun k _ => ?_
  show max (k0_pay1 x (ix2 i k)) (-(k0_pay1 x (ix2 i k))) = _
  rw [pay1_at]

theorem pay2_at (x : Vec Ideal S1024x16384 .bf16) (i : Fin 1024) (z : Fin 1) : k0_pay2 x (ix2 i z) = scaleAt (m := 1024) (n := 16384) x i := by
  have e : k0_pay2 x = k0_pay8 (xmax x) (Ideal.ofBits .f32 0x3B124925#32) := rfl
  rw [e, pay8_at, xmax_at]
  rfl

theorem bcx_at (v : FVec Ideal S1024x1 .f32) (i : Fin 1024) (k : Fin 16384) : broadcastTo S1024x16384 v broadcasts_S1024x1_S1024x16384 (ix2 i k) = v (ix2 i 0) := by
  pointwise

theorem bch_at (v : FVec Ideal S1024x1 .f32) (i : Fin 1024) (k : Fin 5376) : broadcastTo S1024x5376 v broadcasts_S1024x1_S1024x5376 (ix2 i k) = v (ix2 i 0) := by
  pointwise

theorem hzero : Ideal.ofBits .f32 0x00000000#32 = 0 := by
  pointwise

theorem rInv_eq (s : EReal) : Scalar.select (Ideal.cmp .oeq s (Ideal.ofBits .f32 0x7F800000#32)) (Ideal.ofBits .f32 0xFF800000#32) (Scalar.select (Ideal.cmp .oeq s (Ideal.ofBits .f32 0x7F000000#32)) (Ideal.ofBits .f32 0x00000000#32) (Ideal.div (Ideal.ofBits .f32 0x3F800000#32) s)) = rInv s := by
  rw [hbot, htop, hone, hzero]
  rfl

/-- The column of inverses of a column of scales. -/
def invCol (s : FVec Ideal S1024x1 .f32) : FVec Ideal S1024x1 .f32 :=
  select (cmpf .oeq s (broadcast S1024x1 (Scalar.ofBits .f32 0x7F800000#32))) (broadcast S1024x1 (Scalar.ofBits .f32 0xFF800000#32))
    (select (cmpf .oeq s (broadcast S1024x1 (Scalar.ofBits .f32 0x7F000000#32))) (broadcast S1024x1 (Scalar.ofBits .f32 0x00000000#32))
      (divf (broadcast S1024x1 (Scalar.ofBits .f32 0x3F800000#32)) s))

theorem invCol_at (s : FVec Ideal S1024x1 .f32) (j : S1024x1.Idx) : invCol s j = rInv (s j) := by
  rw [← rInv_eq]
  rfl

/-- A matrix scaled by a column and clipped. -/
def clipX (u : FVec Ideal S1024x16384 .f32) (s : FVec Ideal S1024x1 .f32) : FVec Ideal S1024x16384 .f32 :=
  maximumf (broadcast S1024x16384 (Scalar.ofBits .f32 0xC3E00000#32)) (mulf u (broadcastTo S1024x16384 s broadcasts_S1024x1_S1024x16384))

theorem clipX_at (u : FVec Ideal S1024x16384 .f32) (s : FVec Ideal S1024x1 .f32) (i : Fin 1024) (k : Fin 16384) : clipX u s (ix2 i k) = max lo (u (ix2 i k) * s (ix2 i 0)) := by
  rw [← bcx_at s i k]
  rfl

def clipH (u : FVec Ideal S1024x5376 .f32) (s : FVec Ideal S1024x1 .f32) : FVec Ideal S1024x5376 .f32 :=
  maximumf (broadcast S1024x5376 (Scalar.ofBits .f32 0xC3E00000#32)) (mulf u (broadcastTo S1024x5376 s broadcasts_S1024x1_S1024x5376))

theorem clipH_at (u : FVec Ideal S1024x5376 .f32) (s : FVec Ideal S1024x1 .f32) (i : Fin 1024) (k : Fin 5376) : clipH u s (ix2 i k) = max lo (u (ix2 i k) * s (ix2 i 0)) := by
  rw [← bch_at s i k]
  rfl

theorem pay3_eq (x : Vec Ideal S1024x16384 .bf16) : k0_pay3 x = clipX (k0_pay1 x) (invCol (k0_pay2 x)) := by
  unfold k0_pay3 clipX invCol
  rfl

/-- The codes of the input. -/
theorem pay4_at' (u : FVec Ideal S1024x16384 .f32) (j : S1024x16384.Idx) : k0_pay4 (Scalar.ofBits .f32 0x43E00000#32) u j = min hi (u j) := by
  unfold k0_pay4
  rfl

theorem pay4_at (x : Vec Ideal S1024x16384 .bf16) (i : Fin 1024) (k : Fin 16384) :
    k0_pay4 (Scalar.ofBits .f32 0x43E00000#32) (k0_pay3 x) (ix2 i k) = codeAt (m := 1024) (n := 16384) x i k := by
  rw [pay4_at', pay3_eq, clipX_at, invCol_at, pay2_at, pay1_at, codeAt, quant]

theorem pay9_eq (h : FVec Ideal S1024x5376 .f32) (v : FVec Ideal S1024x1 .f32) (c : Ideal .f32) :
    k0_pay9 h v c = truncf .fp8e4m3 (minimumf (broadcast S1024x5376 (Scalar.ofBits .f32 0x43E00000#32)) (clipH h (invCol (k0_pay8 v c)))) bitsLt_fp8e4m3_f32 := by
  unfold k0_pay9 clipH invCol
  rfl

theorem trunc_at (u : FVec Ideal S1024x5376 .f32) (j : S1024x5376.Idx) : (truncf .fp8e4m3 (minimumf (broadcast S1024x5376 (Scalar.ofBits .f32 0x43E00000#32)) u) bitsLt_fp8e4m3_f32 : FVec Ideal S1024x5376 .fp8e4m3) j = min hi (u j) := rfl

/-- The codes of the hidden rows. -/
theorem pay9_at (h : FVec Ideal S1024x5376 .f32) (v : FVec Ideal S1024x1 .f32) (c : Ideal .f32) (i : Fin 1024) (k : Fin 5376) :
    k0_pay9 h v c (ix2 i k) = quant (h (ix2 i k)) (rInv (rScale (v (ix2 i 0) * c))) := by
  rw [pay9_eq, trunc_at, clipH_at, invCol_at, pay8_at, quant]

theorem pay5_at (s : FVec Ideal S1024x1 .f32) (c : Ideal .f32) (u : FVec Ideal S1024x16384 .f32) (w : Vec Ideal S16384x5376 .fp8e4m3) (ws : Vec Ideal S1x5376 .f32)
    (x : Vec Ideal S1024x16384 .bf16) (a : Vec Ideal S16384x64 .bf16) (b : Vec Ideal S64x5376 .bf16) (res : Vec Ideal S1024x5376 .bf16) (i : Fin 1024) (j : Fin 5376) :
    k0_pay5 s c u w ws x a b res (ix2 i j)
      = hAt (m := 1024) (n := 5376) (d := 16384) (r := 64) (k0_pay4 c u) s (mm (d := 16384) x a) w ws b res i j := by
  pointwise [k0_pay5]
  rfl

theorem pay7_at (s : FVec Ideal S1024x1 .f32) (c : Ideal .f32) (u : FVec Ideal S1024x16384 .f32) (w : Vec Ideal S16384x5376 .fp8e4m3) (ws : Vec Ideal S1x5376 .f32)
    (x : Vec Ideal S1024x16384 .bf16) (a : Vec Ideal S16384x64 .bf16) (b : Vec Ideal S64x5376 .bf16) (res : Vec Ideal S1024x5376 .bf16) (i : Fin 1024) (z : Fin 1) :
    k0_pay7 s c u w ws x a b res (ix2 i z) = amax (m := 1024) (n := 5376) (k0_pay5 s c u w ws x a b res) i := by
  unfold k0_pay7 amax
  dsimp only
  rw [col_at, maxRedH_at, hbot]
  rfl

end Cert.ReferenceIdeal.Hand

end
-- ==== Proof.V.RefArr.lean ====
/- What the reference's one call leaves in its five output arrays. -/
module

public import proofs.«01_k».proof.Proof.V.Ref
public import proofs.«01_k».proof.Proof.Gen.ReferenceIdeal.Frame
public import Idealize.ShloMosaic.Lib.Pipeline.ValueKit

@[expose] public section

set_option maxRecDepth 16384

noncomputable section

namespace Cert.ReferenceIdeal.Hand

open Cert.ReferenceIdeal Cert.ReferenceIdeal.Gen Cert.Spec
open Idealize.ShloMosaic Idealize.ShloMosaic.TcCoe
open Idealize.ShloMosaic.Pipeline (Dat Cfg Window)

/-! ## The body's results over any inputs -/

section Body

variable (x : Vec Ideal S1024x16384 .bf16) (res : Vec Ideal S1024x5376 .bf16) (w : Vec Ideal S16384x5376 .fp8e4m3) (ws : Vec Ideal S1x5376 .f32)
  (a : Vec Ideal S16384x64 .bf16) (b : Vec Ideal S64x5376 .bf16)

/-- The hidden rows of whole inputs. -/
def hid : A 1024 5376 :=
  hOf (m := 1024) (n := 5376) (d := 16384) (r := 64) (codes (m := 1024) (n := 16384) x) (scales (m := 1024) (n := 16384) x)
    (mm (m := 1024) (d := 16384) (n := 64) x a) w ws b res

theorem pay10_eq : k0_pay10 x res w ws a b = k0_pay2 x :=
  congrArg k0_pay2 (View.ld_unit_zero (S := S1024x16384) (by decide) _ _)
theorem pay11_eq : k0_pay11 x res w ws a b = k0_pay3 x :=
  congrArg k0_pay3 (View.ld_unit_zero (S := S1024x16384) (by decide) _ _)

/-- The hidden rows as the body spells them. -/
def h5 : FVec Ideal S1024x5376 .bf16 :=
  k0_pay5 (k0_pay2 x) (Scalar.ofBits .f32 0x43E00000#32) (k0_pay3 x) w ws x a b res

theorem h5_at (i : Fin 1024) (j : Fin 5376) : h5 x res w ws a b (ix2 i j) = hid x res w ws a b (ix2 i j) := by
  refine (pay5_at _ _ _ _ _ _ _ _ _ i j).trans ?_
  exact hAt_congr _ _ _ _ _ _ _ _ _ _ _ _ _ _ i j i j (fun k => pay4_at x i k) (pay2_at x i 0) (fun _ => rfl) (fun _ => rfl) rfl (fun _ => rfl) rfl

theorem h5_eq : (h5 x res w ws a b : A 1024 5376) = hid x res w ws a b := by
  funext j
  obtain ⟨i, k, rfl⟩ : ∃ (i : Fin 1024) (k : Fin 5376), j = ix2 i k := ⟨j 0, j 1, eq_ix2 j⟩
  exact h5_at x res w ws a b i k

theorem pay12_eq : k0_pay12 x res w ws a b
    = k0_pay7 (k0_pay2 x) (Scalar.ofBits .f32 0x43E00000#32) (k0_pay3 x) w ws x a b res := by
  unfold k0_pay12
  rw [pay10_eq, pay11_eq]
  congr 1
  · exact View.ld_unit_zero (S := S16384x5376) (by decide) _ _
  · exact View.ld_unit_zero (S := S1x5376) (by decide) _ _
  · exact View.ld_unit_zero (S := S1024x16384) (by decide) _ _
  · exact View.ld_unit_zero (S := S16384x64) (by decide) _ _
  · exact View.ld_unit_zero (S := S64x5376) (by decide) _ _
  · exact View.ld_unit_zero (S := S1024x5376) (by decide) _ _

theorem max_at (i : Fin 1024) (z : Fin 1) : k0_pay12 x res w ws a b (ix2 i z) = amax (hid x res w ws a b) i := by
  rw [pay12_eq]
  refine (pay7_at _ _ _ _ _ _ _ _ _ i z).trans ?_
  exact congrArg (fun h => amax (m := 1024) (n := 5376) h i) (h5_eq x res w ws a b)

theorem p5_eq : k0_pay5 (k0_pay10 x res w ws a b) (Scalar.ofBits .f32 0x43E00000#32) (k0_pay11 x res w ws a b) (View.ld w r0_2) (View.ld ws r0_3) (View.ld x r0_0)
    (View.ld a r0_4) (View.ld b r0_5) (View.ld res r0_6) = h5 x res w ws a b := by
  unfold h5
  rw [pay10_eq, pay11_eq]
  congr 1
  · exact View.ld_unit_zero (S := S16384x5376) (by decide) _ _
  · exact View.ld_unit_zero (S := S1x5376) (by decide) _ _
  · exact View.ld_unit_zero (S := S1024x16384) (by decide) _ _
  · exact View.ld_unit_zero (S := S16384x64) (by decide) _ _
  · exact View.ld_unit_zero (S := S64x5376) (by decide) _ _
  · exact View.ld_unit_zero (S := S1024x5376) (by decide) _ _

theorem p6_at (s : FVec Ideal S1024x1 .f32) (c : Ideal .f32) (u : FVec Ideal S1024x16384 .f32) (w : Vec Ideal S16384x5376 .fp8e4m3) (ws : Vec Ideal S1x5376 .f32)
    (x : Vec Ideal S1024x16384 .bf16) (a : Vec Ideal S16384x64 .bf16) (b : Vec Ideal S64x5376 .bf16) (res : Vec Ideal S1024x5376 .bf16) (j : S1024x5376.Idx) :
    k0_pay6 s c u w ws x a b res j = k0_pay5 s c u w ws x a b res j := by
  unfold k0_pay6
  rfl

theorem o6_at (i : Fin 1024) (j : Fin 5376) : out0_6 x res w ws a b (ix2 i j) = hid x res w ws a b (ix2 i j) := by
  have e : out0_6 x res w ws a b = h5 x res w ws a b :=
    (View.canon_unit_zero (S := S1024x5376) (by decide) _ _).trans (p5_eq x res w ws a b)
  rw [e]
  exact h5_at x res w ws a b i j

theorem o7_at (i : Fin 1024) (k : Fin 16384) : out0_7 x res w ws a b (ix2 i k) = codes (m := 1024) (n := 16384) x (ix2 i k) := by
  have e : out0_7 x res w ws a b = k0_pay4 (Scalar.ofBits .f32 0x43E00000#32) (k0_pay3 x) :=
    (View.canon_unit_zero (S := S1024x16384) (by decide) _ _).trans (congrArg _ (pay11_eq x res w ws a b))
  rw [e]
  exact pay4_at x i k

theorem o8_at (i : Fin 1024) (z : Fin 1) : out0_8 x res w ws a b (ix2 i z) = scales (m := 1024) (n := 16384) x (ix2 i z) := by
  have e : out0_8 x res w ws a b = k0_pay2 x :=
    (View.canon_unit_zero (S := S1024x1) (by decide) _ _).trans (pay10_eq x res w ws a b)
  rw [e]
  exact pay2_at x i z

theorem o9_at (i : Fin 1024) (k : Fin 5376) : out0_9 x res w ws a b (ix2 i k) = codes (hid x res w ws a b) (ix2 i k) := by
  refine (congrFun (View.canon_unit_zero (S := S1024x5376) (by decide) _ _) _).trans ?_
  refine (pay9_at _ _ _ i k).trans ?_
  rw [p6_at, p5_eq, h5_at, max_at]
  rfl

theorem o10_at (i : Fin 1024) (z : Fin 1) : out0_10 x res w ws a b (ix2 i z) = scales (hid x res w ws a b) (ix2 i z) := by
  refine (congrFun (View.canon_unit_zero (S := S1024x1) (by decide) _ _) _).trans ?_
  refine (pay8_at _ _ i z).trans ?_
  rw [max_at]
  rfl

end Body

/-! ## The arrays at the end -/

variable (m : (ℓ : Loc nD τ sig) → Buf (Elt Ideal) ℓ) (c : Dev nD)

theorem e0_0 : ∀ t : Fin cfg0.N, win0_0.index t = ![0, 0] := (by decide +kernel : ∀ t : Fin grid0.N, _)
theorem e0_1 : ∀ t : Fin cfg0.N, win0_1.index t = ![0, 0] := (by decide +kernel : ∀ t : Fin grid0.N, _)
theorem e0_2 : ∀ t : Fin cfg0.N, win0_2.index t = ![0, 0] := (by decide +kernel : ∀ t : Fin grid0.N, _)
theorem e0_3 : ∀ t : Fin cfg0.N, win0_3.index t = ![0, 0] := (by decide +kernel : ∀ t : Fin grid0.N, _)
theorem e0_4 : ∀ t : Fin cfg0.N, win0_4.index t = ![0, 0] := (by decide +kernel : ∀ t : Fin grid0.N, _)
theorem e0_5 : ∀ t : Fin cfg0.N, win0_5.index t = ![0, 0] := (by decide +kernel : ∀ t : Fin grid0.N, _)
theorem e0_6 : ∀ t : Fin cfg0.N, win0_6.index t = ![0, 0] := (by decide +kernel : ∀ t : Fin grid0.N, _)
theorem e0_7 : ∀ t : Fin cfg0.N, win0_7.index t = ![0, 0] := (by decide +kernel : ∀ t : Fin grid0.N, _)
theorem e0_8 : ∀ t : Fin cfg0.N, win0_8.index t = ![0, 0] := (by decide +kernel : ∀ t : Fin grid0.N, _)
theorem e0_9 : ∀ t : Fin cfg0.N, win0_9.index t = ![0, 0] := (by decide +kernel : ∀ t : Fin grid0.N, _)
theorem e0_10 : ∀ t : Fin cfg0.N, win0_10.index t = ![0, 0] := (by decide +kernel : ∀ t : Fin grid0.N, _)

set_option backward.isDefEq.respectTransparency false in
theorem iblk_0 (t : Fin cfg0.N) : (iblk m c 0 t : A 1024 16384) = (V m c (Pipeline.arrRef spec0 0) : A 1024 16384) := by
  funext y
  obtain ⟨i, k, rfl⟩ : ∃ (i : Fin 1024) (k : Fin 16384), y = ix2 i k := ⟨y 0, y 1, eq_ix2 y⟩
  blk_simp [iblk]
  blk_ext [e0_0]

set_option backward.isDefEq.respectTransparency false in
theorem iblk_1 (t : Fin cfg0.N) : (iblk m c 1 t : A 1024 5376) = (V m c (Pipeline.arrRef spec0 1) : A 1024 5376) := by
  funext y
  obtain ⟨i, k, rfl⟩ : ∃ (i : Fin 1024) (k : Fin 5376), y = ix2 i k := ⟨y 0, y 1, eq_ix2 y⟩
  blk_simp [iblk]
  blk_ext [e0_1]

set_option backward.isDefEq.respectTransparency false in
theorem iblk_2 (t : Fin cfg0.N) : (iblk m c 2 t : A 16384 5376) = (V m c (Pipeline.arrRef spec0 2) : A 16384 5376) := by
  funext y
  obtain ⟨i, k, rfl⟩ : ∃ (i : Fin 16384) (k : Fin 5376), y = ix2 i k := ⟨y 0, y 1, eq_ix2 y⟩
  blk_simp [iblk]
  blk_ext [e0_2]

set_option backward.isDefEq.respectTransparency false in
theorem iblk_3 (t : Fin cfg0.N) : (iblk m c 3 t : A 1 5376) = (V m c (Pipeline.arrRef spec0 3) : A 1 5376) := by
  funext y
  obtain ⟨i, k, rfl⟩ : ∃ (i : Fin 1) (k : Fin 5376), y = ix2 i k := ⟨y 0, y 1, eq_ix2 y⟩
  blk_simp [iblk]
  blk_ext [e0_3]

set_option backward.isDefEq.respectTransparency false in
theorem iblk_4 (t : Fin cfg0.N) : (iblk m c 4 t : A 16384 64) = (V m c (Pipeline.arrRef spec0 4) : A 16384 64) := by
  funext y
  obtain ⟨i, k, rfl⟩ : ∃ (i : Fin 16384) (k : Fin 64), y = ix2 i k := ⟨y 0, y 1, eq_ix2 y⟩
  blk_simp [iblk]
  blk_ext [e0_4]

set_option backward.isDefEq.respectTransparency false in
theorem iblk_5 (t : Fin cfg0.N) : (iblk m c 5 t : A 64 5376) = (V m c (Pipeline.arrRef spec0 5) : A 64 5376) := by
  funext y
  obtain ⟨i, k, rfl⟩ : ∃ (i : Fin 64) (k : Fin 5376), y = ix2 i k := ⟨y 0, y 1, eq_ix2 y⟩
  blk_simp [iblk]
  blk_ext [e0_5]

/-- The hidden rows of the arrays the call finds. -/
def hidV : A 1024 5376 :=
  hid (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5))

theorem hid_congr (x x' : A 1024 16384) (res res' : A 1024 5376) (w w' : A 16384 5376) (ws ws' : A 1 5376) (a a' : A 16384 64) (b b' : A 64 5376)
    (h0 : x = x') (h1 : res = res') (h2 : w = w') (h3 : ws = ws') (h4 : a = a') (h5 : b = b') :
    hid x res w ws a b = hid x' res' w' ws' a' b' := by
  subst h0 h1 h2 h3 h4 h5
  rfl

set_option backward.isDefEq.respectTransparency false in
theorem hid_V (t : Fin cfg0.N) : hid (iblk m c 0 t) (iblk m c 1 t) (iblk m c 2 t) (iblk m c 3 t) (iblk m c 4 t) (iblk m c 5 t) = hidV m c :=
  hid_congr _ _ _ _ _ _ _ _ _ _ _ _ (iblk_0 m c t) (iblk_1 m c t) (iblk_2 m c t) (iblk_3 m c t) (iblk_4 m c t) (iblk_5 m c t)

/-- The input rows the call finds. -/
def xV : A 1024 16384 := V m c (Pipeline.arrRef spec0 0)

set_option backward.isDefEq.respectTransparency false in
theorem out6_V (t : Fin cfg0.N) (i : Fin 1024) (k : Fin 5376) : out0_6 (iblk m c 0 t) (iblk m c 1 t) (iblk m c 2 t) (iblk m c 3 t) (iblk m c 4 t) (iblk m c 5 t) (ix2 i k) = hidV m c (ix2 i k) :=
  (o6_at _ _ _ _ _ _ i k).trans (congrFun (hid_V m c t) _)

set_option backward.isDefEq.respectTransparency false in
theorem out7_V (t : Fin cfg0.N) (i : Fin 1024) (k : Fin 16384) : out0_7 (iblk m c 0 t) (iblk m c 1 t) (iblk m c 2 t) (iblk m c 3 t) (iblk m c 4 t) (iblk m c 5 t) (ix2 i k) = codes (xV m c) (ix2 i k) :=
  (o7_at _ _ _ _ _ _ i k).trans (congrFun (congrArg (codes (m := 1024) (n := 16384)) (iblk_0 m c t)) _)

set_option backward.isDefEq.respectTransparency false in
theorem out8_V (t : Fin cfg0.N) (i : Fin 1024) (k : Fin 1) : out0_8 (iblk m c 0 t) (iblk m c 1 t) (iblk m c 2 t) (iblk m c 3 t) (iblk m c 4 t) (iblk m c 5 t) (ix2 i k) = scales (xV m c) (ix2 i k) :=
  (o8_at _ _ _ _ _ _ i k).trans (congrFun (congrArg (scales (m := 1024) (n := 16384)) (iblk_0 m c t)) _)

set_option backward.isDefEq.respectTransparency false in
theorem out9_V (t : Fin cfg0.N) (i : Fin 1024) (k : Fin 5376) : out0_9 (iblk m c 0 t) (iblk m c 1 t) (iblk m c 2 t) (iblk m c 3 t) (iblk m c 4 t) (iblk m c 5 t) (ix2 i k) = codes (hidV m c) (ix2 i k) :=
  (o9_at _ _ _ _ _ _ i k).trans (congrFun (congrArg (codes (m := 1024) (n := 5376)) (hid_V m c t)) _)

set_option backward.isDefEq.respectTransparency false in
theorem out10_V (t : Fin cfg0.N) (i : Fin 1024) (k : Fin 1) : out0_10 (iblk m c 0 t) (iblk m c 1 t) (iblk m c 2 t) (iblk m c 3 t) (iblk m c 4 t) (iblk m c 5 t) (ix2 i k) = scales (hidV m c) (ix2 i k) :=
  (o10_at _ _ _ _ _ _ i k).trans (congrFun (congrArg (scales (m := 1024) (n := 5376)) (hid_V m c t)) _)

set_option backward.isDefEq.respectTransparency false in
theorem emb0_6 (t : Fin cfg0.N) (i : Fin 1024) (k : Fin 5376) : ((win0_6.blk t).view.emb (ix2 i k) : (⟨2, ![1024, 5376]⟩ : Shape).Idx) = ix2 i k := by
  blk_ext [e0_6]

set_option backward.isDefEq.respectTransparency false in
/-- The hidden rows. -/
theorem arr_6 : (dats m 0 c).arrAt 6 cfg0.N = hidV m c := by
  refine (dats m 0 c).arrAt_eq_of_covers 6 (hidV m c) (by decide +kernel) fun t hf y => ?_
  blk_simp
  rw [after0_6]
  obtain ⟨i, k, rfl⟩ : ∃ (i : Fin 1024) (k : Fin 5376), y = ix2 i k := ⟨y 0, y 1, eq_ix2 y⟩
  refine (out6_V m c t i k).trans ?_
  exact (congrArg (hidV m c) (emb0_6 t i k)).symm

set_option backward.isDefEq.respectTransparency false in
theorem emb0_7 (t : Fin cfg0.N) (i : Fin 1024) (k : Fin 16384) : ((win0_7.blk t).view.emb (ix2 i k) : (⟨2, ![1024, 16384]⟩ : Shape).Idx) = ix2 i k := by
  blk_ext [e0_7]

set_option backward.isDefEq.respectTransparency false in
/-- The input codes. -/
theorem arr_7 : (dats m 0 c).arrAt 7 cfg0.N = codes (xV m c) := by
  refine (dats m 0 c).arrAt_eq_of_covers 7 (codes (xV m c)) (by decide +kernel) fun t hf y => ?_
  blk_simp
  rw [after0_7]
  obtain ⟨i, k, rfl⟩ : ∃ (i : Fin 1024) (k : Fin 16384), y = ix2 i k := ⟨y 0, y 1, eq_ix2 y⟩
  refine (out7_V m c t i k).trans ?_
  exact (congrArg (codes (xV m c)) (emb0_7 t i k)).symm

set_option backward.isDefEq.respectTransparency false in
theorem emb0_8 (t : Fin cfg0.N) (i : Fin 1024) (k : Fin 1) : ((win0_8.blk t).view.emb (ix2 i k) : (⟨2, ![1024, 1]⟩ : Shape).Idx) = ix2 i k := by
  blk_ext [e0_8]

set_option backward.isDefEq.respectTransparency false in
/-- The input scales. -/
theorem arr_8 : (dats m 0 c).arrAt 8 cfg0.N = scales (xV m c) := by
  refine (dats m 0 c).arrAt_eq_of_covers 8 (scales (xV m c)) (by decide +kernel) fun t hf y => ?_
  blk_simp
  rw [after0_8]
  obtain ⟨i, k, rfl⟩ : ∃ (i : Fin 1024) (k : Fin 1), y = ix2 i k := ⟨y 0, y 1, eq_ix2 y⟩
  refine (out8_V m c t i k).trans ?_
  exact (congrArg (scales (xV m c)) (emb0_8 t i k)).symm

set_option backward.isDefEq.respectTransparency false in
theorem emb0_9 (t : Fin cfg0.N) (i : Fin 1024) (k : Fin 5376) : ((win0_9.blk t).view.emb (ix2 i k) : (⟨2, ![1024, 5376]⟩ : Shape).Idx) = ix2 i k := by
  blk_ext [e0_9]

set_option backward.isDefEq.respectTransparency false in
/-- The hidden codes. -/
theorem arr_9 : (dats m 0 c).arrAt 9 cfg0.N = codes (hidV m c) := by
  refine (dats m 0 c).arrAt_eq_of_covers 9 (codes (hidV m c)) (by decide +kernel) fun t hf y => ?_
  blk_simp
  rw [after0_9]
  obtain ⟨i, k, rfl⟩ : ∃ (i : Fin 1024) (k : Fin 5376), y = ix2 i k := ⟨y 0, y 1, eq_ix2 y⟩
  refine (out9_V m c t i k).trans ?_
  exact (congrArg (codes (hidV m c)) (emb0_9 t i k)).symm

set_option backward.isDefEq.respectTransparency false in
theorem emb0_10 (t : Fin cfg0.N) (i : Fin 1024) (k : Fin 1) : ((win0_10.blk t).view.emb (ix2 i k) : (⟨2, ![1024, 1]⟩ : Shape).Idx) = ix2 i k := by
  blk_ext [e0_10]

set_option backward.isDefEq.respectTransparency false in
/-- The hidden scales. -/
theorem arr_10 : (dats m 0 c).arrAt 10 cfg0.N = scales (hidV m c) := by
  refine (dats m 0 c).arrAt_eq_of_covers 10 (scales (hidV m c)) (by decide +kernel) fun t hf y => ?_
  blk_simp
  rw [after0_10]
  obtain ⟨i, k, rfl⟩ : ∃ (i : Fin 1024) (k : Fin 1), y = ix2 i k := ⟨y 0, y 1, eq_ix2 y⟩
  refine (out10_V m c t i k).trans ?_
  exact (congrArg (scales (hidV m c)) (emb0_10 t i k)).symm

end Cert.ReferenceIdeal.Hand

end
-- ==== Proof.V.RefHost.lean ====
/- The reference's five results as functions of its arguments. -/
module

public import proofs.«01_k».proof.Proof.V.Outs
public import proofs.«01_k».proof.Proof.V.RefArr

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.SL.Sem

variable (m : (ℓ : Loc nD τ sig) → Buf (Elt Ideal) ℓ) (c : Dev nD)

/-! ## The arrays the call finds -/

theorem V_v0 : V m c main_v0 = inX (m ((c : Thread nD τ).loc main_arg0)) := by
  show StableHlo.after (List.flatten [hostOps0]) (fun b => m (c, b)) (Proc.devRef .tc main_v0) = _
  simp only [List.flatten_cons, List.flatten_nil, List.append_nil, StableHlo.after_cons, StableHlo.after_nil]
  rw [StableHlo.reshape_result_ne _ _ _ _ _ _ _ (by decide), StableHlo.reshape_result_ne _ _ _ _ _ _ _ (by decide), StableHlo.reshape_result]
  rfl

theorem V_v1 : V m c main_v1 = inR (m ((c : Thread nD τ).loc main_arg1)) := by
  show StableHlo.after (List.flatten [hostOps0]) (fun b => m (c, b)) (Proc.devRef .tc main_v1) = _
  simp only [List.flatten_cons, List.flatten_nil, List.append_nil, StableHlo.after_cons, StableHlo.after_nil]
  rw [StableHlo.reshape_result_ne _ _ _ _ _ _ _ (by decide), StableHlo.reshape_result, StableHlo.reshape_result_ne _ _ _ _ _ _ _ (by decide)]
  rfl

theorem V_v2 : V m c main_v2 = inS (m ((c : Thread nD τ).loc main_arg3)) := by
  show StableHlo.after (List.flatten [hostOps0]) (fun b => m (c, b)) (Proc.devRef .tc main_v2) = _
  simp only [List.flatten_cons, List.flatten_nil, List.append_nil, StableHlo.after_cons, StableHlo.after_nil]
  rw [StableHlo.reshape_result, StableHlo.reshape_result_ne _ _ _ _ _ _ _ (by decide), StableHlo.reshape_result_ne _ _ _ _ _ _ _ (by decide)]
  rfl

/-- The hidden rows of the launch arguments. -/
def hidM : A 1024 5376 :=
  hidden (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem hidV_eq : hidV m c = hidM m c :=
  hid_congr _ _ _ _ _ _ _ _ _ _ _ _ (V_v0 m c) (V_v1 m c) (V_main_arg2 m c) (V_v2 m c) (V_main_arg4 m c) (V_main_arg5 m c)

theorem xV_eq : xV m c = inX (m ((c : Thread nD τ).loc main_arg0)) := V_v0 m c

/-! ## The results -/

theorem arr_inj : Function.Injective (Pipeline.arrRef spec0) := by decide

set_option backward.isDefEq.respectTransparency false in
theorem W_main_v4 : Pipeline.afterTail₀ cfgs (dats m) 0 (V0 m) [hostOps1] c main_v4 = outH (hidM m c) := by
  unfold Pipeline.afterTail₀
  simp only [List.flatten_cons, List.flatten_nil, List.append_nil, StableHlo.after_cons, StableHlo.after_nil]
  rw [StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result]
  have e := (Pipeline.withArrays_arr spec0 arr_inj c (V0 m c) (fun w => (dats m 0 c).arrAt w cfg0.N) 6).trans (arr_6 m c)
  rw [hidV_eq] at e
  exact congrArg outH e

set_option backward.isDefEq.respectTransparency false in
theorem W_main_v5 : Pipeline.afterTail₀ cfgs (dats m) 0 (V0 m) [hostOps1] c main_v5 = outC (codes (inX (m ((c : Thread nD τ).loc main_arg0)))) := by
  unfold Pipeline.afterTail₀
  simp only [List.flatten_cons, List.flatten_nil, List.append_nil, StableHlo.after_cons, StableHlo.after_nil]
  rw [StableHlo.reshape_result_ne _ _ _ _ _ _ _ (by decide), StableHlo.reshape_result_ne _ _ _ _ _ _ _ (by decide), StableHlo.reshape_result_ne _ _ _ _ _ _ _ (by decide), StableHlo.reshape_result, StableHlo.reshape_result_ne _ _ _ _ _ _ _ (by decide)]
  have e := (Pipeline.withArrays_arr spec0 arr_inj c (V0 m c) (fun w => (dats m 0 c).arrAt w cfg0.N) 7).trans (arr_7 m c)
  rw [xV_eq] at e
  exact congrArg outC e

set_option backward.isDefEq.respectTransparency false in
theorem W_main_v6 : Pipeline.afterTail₀ cfgs (dats m) 0 (V0 m) [hostOps1] c main_v6 = outS (scales (inX (m ((c : Thread nD τ).loc main_arg0)))) := by
  unfold Pipeline.afterTail₀
  simp only [List.flatten_cons, List.flatten_nil, List.append_nil, StableHlo.after_cons, StableHlo.after_nil]
  rw [StableHlo.reshape_result_ne _ _ _ _ _ _ _ (by decide), StableHlo.reshape_result_ne _ _ _ _ _ _ _ (by decide), StableHlo.reshape_result, StableHlo.reshape_result_ne _ _ _ _ _ _ _ (by decide), StableHlo.reshape_result_ne _ _ _ _ _ _ _ (by decide)]
  have e := (Pipeline.withArrays_arr spec0 arr_inj c (V0 m c) (fun w => (dats m 0 c).arrAt w cfg0.N) 8).trans (arr_8 m c)
  rw [xV_eq] at e
  exact congrArg outS e

set_option backward.isDefEq.respectTransparency false in
theorem W_main_v7 : Pipeline.afterTail₀ cfgs (dats m) 0 (V0 m) [hostOps1] c main_v7 = outH (codes (hidM m c)) := by
  unfold Pipeline.afterTail₀
  simp only [List.flatten_cons, List.flatten_nil, List.append_nil, StableHlo.after_cons, StableHlo.after_nil]
  rw [StableHlo.reshape_result_ne _ _ _ _ _ _ _ (by decide), StableHlo.reshape_result, StableHlo.reshape_result_ne _ _ _ _ _ _ _ (by decide), StableHlo.reshape_result_ne _ _ _ _ _ _ _ (by decide), StableHlo.reshape_result_ne _ _ _ _ _ _ _ (by decide)]
  have e := (Pipeline.withArrays_arr spec0 arr_inj c (V0 m c) (fun w => (dats m 0 c).arrAt w cfg0.N) 9).trans (arr_9 m c)
  rw [hidV_eq] at e
  exact congrArg outH e

set_option backward.isDefEq.respectTransparency false in
theorem W_main_v8 : Pipeline.afterTail₀ cfgs (dats m) 0 (V0 m) [hostOps1] c main_v8 = outS (scales (hidM m c)) := by
  unfold Pipeline.afterTail₀
  simp only [List.flatten_cons, List.flatten_nil, List.append_nil, StableHlo.after_cons, StableHlo.after_nil]
  rw [StableHlo.reshape_result, StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide)]
  have e := (Pipeline.withArrays_arr spec0 arr_inj c (V0 m c) (fun w => (dats m 0 c).arrAt w cfg0.N) 10).trans (arr_10 m c)
  rw [hidV_eq] at e
  exact congrArg outS e

/-- Every run ends with the five results as stated and the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v4) = outH (hidM m c)
      ∧ r.2.mem ((c.tc : Thread nD τ).loc main_v5) = outC (codes (inX (m ((c.tc : Thread nD τ).loc main_arg0))))
      ∧ r.2.mem ((c.tc : Thread nD τ).loc main_v6) = outS (scales (inX (m ((c.tc : Thread nD τ).loc main_arg0))))
      ∧ r.2.mem ((c.tc : Thread nD τ).loc main_v7) = outH (codes (hidM m c))
      ∧ r.2.mem ((c.tc : Thread nD τ).loc main_v8) = outS (scales (hidM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v4 (Pipeline.mem_restRefs_of main_v4 (by decide) (by decide))).trans (W_main_v4 m c),
    ((h c).2 main_v5 (Pipeline.mem_restRefs_of main_v5 (by decide) (by decide))).trans (W_main_v5 m c),
    ((h c).2 main_v6 (Pipeline.mem_restRefs_of main_v6 (by decide) (by decide))).trans (W_main_v6 m c),
    ((h c).2 main_v7 (Pipeline.mem_restRefs_of main_v7 (by decide) (by decide))).trans (W_main_v7 m c),
    ((h c).2 main_v8 (Pipeline.mem_restRefs_of main_v8 (by decide) (by decide))).trans (W_main_v8 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩) (run_main m ρ)

end Cert.ReferenceIdeal.Hand

end
-- ==== Proof.V.Value.lean ====
/- The kernel and the reference return equal results. -/
module

public import proofs.«01_k».proof.Defs
public import proofs.«01_k».proof.Proof.V.KerHost
public import proofs.«01_k».proof.Proof.V.RefHost

@[expose] public section

set_option maxRecDepth 16384

noncomputable section

namespace Cert.Proof

open Idealize.ShloMosaic Idealize.SL.Sem Cert.Spec

theorem hidden_congr (x x' : B 1024 16384) (res res' : B 1024 5376) (w w' : A 16384 5376) (ws ws' : C 5376) (a a' : A 16384 64) (b b' : A 64 5376)
    (h0 : x = x') (h1 : res = res') (h2 : w = w') (h3 : ws = ws') (h4 : a = a') (h5 : b = b') :
    hidden x res w ws a b = hidden x' res' w' ws' a' b' := by
  subst h0 h1 h2 h3 h4 h5
  rfl

/-- From memories agreeing on the arguments, all five results are equal. -/
theorem value : Cert.algebraic_KernelIdeal_ReferenceIdeal (hKernelIdeal := Cert.KernelIdeal.Gen.facts) (hReferenceIdeal := Cert.ReferenceIdeal.Gen.facts) :=
  fun m g m' g' _ h => by
    have hx : ∀ c : Dev Cert.KernelIdeal.nD, (inX (m' ((c.tc : Thread Cert.ReferenceIdeal.nD Cert.ReferenceIdeal.τ).loc Cert.ReferenceIdeal.main_arg0)) : A 1024 16384)
        = inX (m ((c.tc : Thread Cert.KernelIdeal.nD Cert.KernelIdeal.τ).loc Cert.KernelIdeal.main_arg0)) := fun c => congrArg inX (h c).1
    have hh : ∀ c : Dev Cert.KernelIdeal.nD, Cert.ReferenceIdeal.Hand.hidM m' c = Cert.KernelIdeal.Hand.hidM m c := fun c =>
      hidden_congr _ _ _ _ _ _ _ _ _ _ _ _ (h c).1 (h c).2.1 (h c).2.2.1 (h c).2.2.2.1 (h c).2.2.2.2.1 (h c).2.2.2.2.2
    refine ⟨fun c => outH (Cert.KernelIdeal.Hand.hidM m c), fun c => outC (codes (inX (m ((c.tc : Thread Cert.KernelIdeal.nD Cert.KernelIdeal.τ).loc Cert.KernelIdeal.main_arg0)))),
      fun c => outS (scales (inX (m ((c.tc : Thread Cert.KernelIdeal.nD Cert.KernelIdeal.τ).loc Cert.KernelIdeal.main_arg0)))), fun c => outH (codes (Cert.KernelIdeal.Hand.hidM m c)),
      fun c => outS (scales (Cert.KernelIdeal.Hand.hidM m c)), Cert.KernelIdeal.Hand.run_value m g, ?_⟩
    refine (θ_run (Cert.ReferenceIdeal.defs (F := Ideal)) _ _).mono (fun r k c => ?_) (Cert.ReferenceIdeal.Hand.run_value m' g')
    obtain ⟨k0, k1, k2, k3, k4, ka⟩ := k c
    exact ⟨k0.trans (congrArg outH (hh c)), k1.trans (congrArg (fun x => outC (codes x)) (hx c)), k2.trans (congrArg (fun x => outS (scales x)) (hx c)),
      k3.trans (congrArg (fun x => outH (codes x)) (hh c)), k4.trans (congrArg (fun x => outS (scales x)) (hh c)), ka⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.K.Run
public import proofs.«01_k».proof.Proof.KI.Run
public import proofs.«01_k».proof.Proof.V.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, fun m ρ _ => Cert.Kernel.Hand.frame m ρ, fun m ρ _ => Cert.KernelIdeal.Hand.frame m ρ,
  fun m ρ _ => Cert.ReferenceIdeal.Gen.frame m ρ, trivial, value⟩

end Cert.Proof

end
